-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_in_image_0 [hPre_boxes_in_image_0 : Cert.Pre_boxes_in_image_0.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_image_0.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_image_0 [hPre_boxes_in_image_0 : Cert.Pre_boxes_in_image_0.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_image_0.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_in_image_0 [hKernelIdeal : Cert.KernelIdeal.Facts] [hPre_boxes_in_image_0 : Cert.Pre_boxes_in_image_0.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_in_image_0 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_in_image_0 [hReferenceIdeal : Cert.ReferenceIdeal.Facts] [hPre_boxes_in_image_0 : Cert.Pre_boxes_in_image_0.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_image_0 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "area0" .f32 0x3B656042#32 ((126100791982293 / 36028797018963968 : ℝ) : EReal)
  ∧ IdealRules.named_const.Statement Cert.KernelIdeal.κ "area1" .f32 0x3C9374BD#32 ((81064794701955 / 4503599627370496 : ℝ) : EReal)
  ∧ IdealRules.named_const.Statement Cert.KernelIdeal.κ "area2" .f32 0x3DD70A3E#32 ((59109746451415 / 562949953421312 : ℝ) : EReal)

def algebraic_KernelIdeal_ReferenceIdeal_pre_boxes_in_image_0 [hKernelIdeal : Cert.KernelIdeal.Facts] [hReferenceIdeal : Cert.ReferenceIdeal.Facts] [hPre_boxes_in_image_0 : Cert.Pre_boxes_in_image_0.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_in_image_0 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v396) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_in_image_0 : Cert.Pre_boxes_in_image_0.Facts),
    quiescent_Kernel (hKernel := hKernel)
    ∧ quiescent_KernelIdeal (hKernelIdeal := hKernelIdeal)
    ∧ quiescent_KernelIdeal_pre_boxes_in_image_0 (hKernelIdeal := hKernelIdeal) (hPre_boxes_in_image_0 := hPre_boxes_in_image_0)
    ∧ quiescent_ReferenceIdeal (hReferenceIdeal := hReferenceIdeal)
    ∧ quiescent_ReferenceIdeal_pre_boxes_in_image_0 (hReferenceIdeal := hReferenceIdeal) (hPre_boxes_in_image_0 := hPre_boxes_in_image_0)
    ∧ preserves_Kernel_KernelIdeal
    ∧ algebraic_KernelIdeal_ReferenceIdeal_pre_boxes_in_image_0 (hKernelIdeal := hKernelIdeal) (hReferenceIdeal := hReferenceIdeal) (hPre_boxes_in_image_0 := hPre_boxes_in_image_0)
-- ==== Pre_boxes_in_image_0.lean ====
abbrev S16x255x76x76 : Shape := ⟨4, ![16, 255, 76, 76]⟩
abbrev S300x5 : Shape := ⟨2, ![300, 5]⟩
abbrev S300x3 : Shape := ⟨2, ![300, 3]⟩
abbrev S_ : Shape := ⟨0, ![]⟩

class Facts : Prop where
  slices_S300x5_S300x3_0_0 : S300x5.Slices ![0, 0] S300x3
  bcast_S_S300x3 : S_.BroadcastsInDim S300x3 (![] : Fin 0 → Fin S300x3.rank)

variable [Facts]

def fn {F : FTy → Type} [FloatOps F] (main_arg0 : FVec F S16x255x76x76 .f32) (main_arg1 : FVec F S300x5 .f32) : IVec S300x3 1 :=
  let main_v0 : FVec F S300x3 .f32 := (extractStridedSlice S300x3 ![0, 0] · slices_S300x5_S300x3_0_0) main_arg1
  let main_cst : FVec F S_ .f32 := constant S_ .f32 0x00000000#32
  let main_v1 : FVec F S300x3 .f32 := broadcastInDim S300x3 ![] bcast_S_S300x3 main_cst
  let main_v2 : IVec S300x3 1 := cmpf .oge main_v0 main_v1
  let main_cst_0 : FVec F S_ .f32 := constant S_ .f32 0x3F800000#32
  let main_v3 : FVec F S300x3 .f32 := broadcastInDim S300x3 ![] bcast_S_S300x3 main_cst_0
  let main_v4 : IVec S300x3 1 := cmpf .olt main_v0 main_v3
  let main_v5 : IVec S300x3 1 := andi main_v2 main_v4
  main_v5
-- ==== Kernel.lean ====
abbrev S16x255x76x76 : Shape := ⟨4, ![16, 255, 76, 76]⟩
abbrev S300x5 : Shape := ⟨2, ![300, 5]⟩
abbrev S16x90x76x76 : Shape := ⟨4, ![16, 90, 76, 76]⟩
abbrev S16x5x76x76 : Shape := ⟨4, ![16, 5, 76, 76]⟩
abbrev S5x300 : Shape := ⟨2, ![5, 300]⟩
abbrev S1x1 : Shape := ⟨2, ![1, 1]⟩
abbrev S300x1 : Shape := ⟨2, ![300, 1]⟩
abbrev S1x300 : Shape := ⟨2, ![1, 300]⟩
abbrev S300x300 : Shape := ⟨2, ![300, 300]⟩
abbrev S300x76 : Shape := ⟨2, ![300, 76]⟩
abbrev S16x1x76x76 : Shape := ⟨4, ![16, 1, 76, 76]⟩
abbrev S16x76x76 : Shape := ⟨3, ![16, 76, 76]⟩
abbrev S1x16x76x76 : Shape := ⟨4, ![1, 16, 76, 76]⟩
abbrev S1 : Shape := ⟨1, ![1]⟩
abbrev S1x1x1x1 : Shape := ⟨4, ![1, 1, 1, 1]⟩
abbrev S1x1x76x76 : Shape := ⟨4, ![1, 1, 76, 76]⟩
abbrev S76x76 : Shape := ⟨2, ![76, 76]⟩
abbrev S300 : Shape := ⟨1, ![300]⟩
abbrev S1x300x1 : Shape := ⟨3, ![1, 300, 1]⟩
abbrev S1x1x1 : Shape := ⟨3, ![1, 1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16x255x76x76, .f32⟩
  | .hbm, ⟨1, _⟩ => ⟨S300x5, .f32⟩
  | .hbm, ⟨2, _⟩ => ⟨S16x90x76x76, .f32⟩
  | .hbm, ⟨3, _⟩ => ⟨S16x5x76x76, .f32⟩
  | .hbm, ⟨4, _⟩ => ⟨S5x300, .f32⟩
  | .hbm, ⟨5, _⟩ => ⟨S1x1, .f32⟩
  | .hbm, ⟨6, _⟩ => ⟨S_, .f32⟩
  | .local _ .vmem, ⟨0, _⟩ => ⟨S16x5x76x76, .f32⟩
  | .local _ .vmem, ⟨1, _⟩ => ⟨S16x5x76x76, .f32⟩
  | .local _ .vmem, ⟨2, _⟩ => ⟨S16x5x76x76, .f32⟩
  | .local _ .vmem, ⟨3, _⟩ => ⟨S300x5, .f32⟩
  | .local _ .vmem, ⟨4, _⟩ => ⟨S5x300, .f32⟩
  | .local _ .vmem, ⟨5, _⟩ => ⟨S1x1, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c17_i32 : BitVec 32 := 17#32
  let c0_i32_0 : BitVec 32 := 0#32
  let c0_i32_1 : BitVec 32 := 0#32
  let c0_i32_2 : BitVec 32 := 0#32
  ![c0_i32.toNat, c17_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x5x76x76 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x5x76x76 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x5x76x76 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "area0" => some ((126100791982293 / 36028797018963968 : ℝ) : EReal)
  | "area1" => some ((81064794701955 / 4503599627370496 : ℝ) : EReal)
  | "area2" => some ((59109746451415 / 562949953421312 : ℝ) : EReal)
  | _ => none
-- ==== ReferenceIdeal.lean ====
abbrev S16x255x76x76 : Shape := ⟨4, ![16, 255, 76, 76]⟩
abbrev S300x5 : Shape := ⟨2, ![300, 5]⟩
abbrev S3 : Shape := ⟨1, ![3]⟩
abbrev S3x2 : Shape := ⟨2, ![3, 2]⟩
abbrev S16x3x85x76x76 : Shape := ⟨5, ![16, 3, 85, 76, 76]⟩
abbrev S16x3x76x76x85 : Shape := ⟨5, ![16, 3, 76, 76, 85]⟩
abbrev S16x3x76x76x1 : Shape := ⟨5, ![16, 3, 76, 76, 1]⟩
abbrev S16x3x76x76 : Shape := ⟨4, ![16, 3, 76, 76]⟩
abbrev S_ : Shape := ⟨0, ![]⟩
abbrev S1x3x1x1 : Shape := ⟨4, ![1, 3, 1, 1]⟩
abbrev S300x1 : Shape := ⟨2, ![300, 1]⟩
abbrev S300 : Shape := ⟨1, ![300]⟩
abbrev S1x1 : Shape := ⟨2, ![1, 1]⟩
abbrev S1x300 : Shape := ⟨2, ![1, 300]⟩
abbrev S3x300 : Shape := ⟨2, ![3, 300]⟩
abbrev S3x1 : Shape := ⟨2, ![3, 1]⟩
abbrev S300x4 : Shape := ⟨2, ![300, 4]⟩
abbrev S300x3 : Shape := ⟨2, ![300, 3]⟩
abbrev S1x3 : Shape := ⟨2, ![1, 3]⟩
abbrev S300x3x1 : Shape := ⟨3, ![300, 3, 1]⟩
abbrev S300x3x4 : Shape := ⟨3, ![300, 3, 4]⟩

abbrev nBuf : Space → Nat
  | .hbm => 536
  | .vmem => 0
  | .smem => 0
  | _ => 0

abbrev hbmTy0_0 (i : Nat) : BufTy := match i % 128 with
  | 0 => ⟨S16x255x76x76, .f32⟩
  | 1 => ⟨S300x5, .f32⟩
  | 2 => ⟨S3, .f32⟩
  | 3 => ⟨S3, .f32⟩
  | 4 => ⟨S3x2, .f32⟩
  | 5 => ⟨S16x3x85x76x76, .f32⟩
  | 6 => ⟨S16x3x76x76x85, .f32⟩
  | 7 => ⟨S16x3x76x76x1, .f32⟩
  | 8 => ⟨S16x3x76x76, .f32⟩
  | 9 => ⟨S16x3x76x76, .f32⟩
  | 10 => ⟨S16x3x76x76, .f32⟩
  | 11 => ⟨S_, .f32⟩
  | 12 => ⟨S16x3x76x76, .f32⟩
  | 13 => ⟨S16x3x76x76, .f32⟩
  | 14 => ⟨S_, .f32⟩
  | 15 => ⟨S16x3x76x76, .f32⟩
  | 16 => ⟨S16x3x76x76, .f32⟩
  | 17 => ⟨S16x3x76x76x1, .f32⟩
  | 18 => ⟨S16x3x76x76, .f32⟩
  | 19 => ⟨S16x3x76x76, .f32⟩
  | 20 => ⟨S16x3x76x76, .f32⟩
  | 21 => ⟨S_, .f32⟩
  | 22 => ⟨S16x3x76x76, .f32⟩
  | 23 => ⟨S16x3x76x76, .f32⟩
  | 24 => ⟨S_, .f32⟩
  | 25 => ⟨S16x3x76x76, .f32⟩
  | 26 => ⟨S16x3x76x76, .f32⟩
  | 27 => ⟨S16x3x76x76x1, .f32⟩
  | 28 => ⟨S16x3x76x76, .f32⟩
  | 29 => ⟨S16x3x76x76x1, .f32⟩
  | 30 => ⟨S16x3x76x76, .f32⟩
  | 31 => ⟨S16x3x76x76x1, .f32⟩
  | 32 => ⟨S16x3x76x76, .f32⟩
  | 33 => ⟨S16x3x76x76, .f32⟩
  | 34 => ⟨S16x3x76x76, .f32⟩
  | 35 => ⟨S_, .f32⟩
  | 36 => ⟨S16x3x76x76, .f32⟩
  | 37 => ⟨S16x3x76x76, .f32⟩
  | 38 => ⟨S_, .f32⟩
  | 39 => ⟨S16x3x76x76, .f32⟩
  | 40 => ⟨S16x3x76x76, .f32⟩
  | 41 => ⟨S1x3x1x1, .f32⟩
  | 42 => ⟨S1x3x1x1, .f32⟩
  | 43 => ⟨S300x1, .f32⟩
  | 44 => ⟨S300, .f32⟩
  | 45 => ⟨S300x1, .f32⟩
  | 46 => ⟨S300, .f32⟩
  | 47 => ⟨S300x1, .f32⟩
  | 48 => ⟨S300, .f32⟩
  | 49 => ⟨S300x1, .f32⟩
  | 50 => ⟨S300, .f32⟩
  | 51 => ⟨S1x1, .f32⟩
  | 52 => ⟨S_, .f32⟩
  | 53 => ⟨S1x1, .f32⟩
  | 54 => ⟨S_, .f32⟩
  | 55 => ⟨S300, .f32⟩
  | 56 => ⟨S300, .f32⟩
  | 57 => ⟨S300, .f32⟩
  | 58 => ⟨S300, .f32⟩
  | 59 => ⟨S300, .f32⟩
  | 60 => ⟨S300, .f32⟩
  | 61 => ⟨S_, .f32⟩
  | 62 => ⟨S300, .f32⟩
  | 63 => ⟨S300, .f32⟩
  | 64 => ⟨S300, .f32⟩
  | 65 => ⟨S_, .f32⟩
  | 66 => ⟨S300, .f32⟩
  | 67 => ⟨S300, .f32⟩
  | 68 => ⟨S300, .f32⟩
  | 69 => ⟨S1x1, .f32⟩
  | 70 => ⟨S_, .f32⟩
  | 71 => ⟨S1x1, .f32⟩
  | 72 => ⟨S_, .f32⟩
  | 73 => ⟨S300, .f32⟩
  | 74 => ⟨S300, .f32⟩
  | 75 => ⟨S300, .f32⟩
  | 76 => ⟨S300, .f32⟩
  | 77 => ⟨S300, .f32⟩
  | 78 => ⟨S300, .f32⟩
  | 79 => ⟨S_, .f32⟩
  | 80 => ⟨S300, .f32⟩
  | 81 => ⟨S300, .f32⟩
  | 82 => ⟨S300, .f32⟩
  | 83 => ⟨S_, .f32⟩
  | 84 => ⟨S300, .f32⟩
  | 85 => ⟨S300, .f32⟩
  | 86 => ⟨S300, .f32⟩
  | 87 => ⟨S1x1, .f32⟩
  | 88 => ⟨S_, .f32⟩
  | 89 => ⟨S1x1, .f32⟩
  | 90 => ⟨S_, .f32⟩
  | 91 => ⟨S300, .f32⟩
  | 92 => ⟨S300, .f32⟩
  | 93 => ⟨S300, .f32⟩
  | 94 => ⟨S300, .f32⟩
  | 95 => ⟨S300, .f32⟩
  | 96 => ⟨S300, .f32⟩
  | 97 => ⟨S_, .f32⟩
  | 98 => ⟨S300, .f32⟩
  | 99 => ⟨S300, .f32⟩
  | 100 => ⟨S300, .f32⟩
  | 101 => ⟨S_, .f32⟩
  | 102 => ⟨S300, .f32⟩
  | 103 => ⟨S300, .f32⟩
  | 104 => ⟨S300, .f32⟩
  | 105 => ⟨S1x300, .f32⟩
  | 106 => ⟨S1x300, .f32⟩
  | 107 => ⟨S1x300, .f32⟩
  | 108 => ⟨S3x300, .f32⟩
  | 109 => ⟨S_, .f32⟩
  | 110 => ⟨S300, .f32⟩
  | 111 => ⟨S1x300, .f32⟩
  | 112 => ⟨S3x300, .f32⟩
  | 113 => ⟨S3x300, .i1⟩
  | 114 => ⟨S3, .i32⟩
  | 115 => ⟨S3x1, .i32⟩
  | 116 => ⟨S_, .i32⟩
  | 117 => ⟨S_, .i32⟩
  | 118 => ⟨S3x300, .i32⟩
  | 119 => ⟨S3x300, .i32⟩
  | 120 => ⟨S3x300, .i32⟩
  | 121 => ⟨S_, .i32⟩
  | 122 => ⟨S300, .i32⟩
  | 123 => ⟨S300x1, .f32⟩
  | 124 => ⟨S300, .f32⟩
  | 125 => ⟨S300, .i32⟩
  | 126 => ⟨S_, .f32⟩
  | 127 => ⟨S300, .f32⟩
  | _ => ⟨S16x255x76x76, .f32⟩

abbrev hbmTy0_1 (i : Nat) : BufTy := match i % 128 with
  | 0 => ⟨S300, .f32⟩
  | 1 => ⟨S300, .i32⟩
  | 2 => ⟨S_, .f32⟩
  | 3 => ⟨S300, .f32⟩
  | 4 => ⟨S300, .f32⟩
  | 5 => ⟨S300, .i32⟩
  | 6 => ⟨S_, .i32⟩
  | 7 => ⟨S16x3x76x76, .i32⟩
  | 8 => ⟨S_, .i32⟩
  | 9 => ⟨S300, .i32⟩
  | 10 => ⟨S300, .i1⟩
  | 11 => ⟨S_, .i32⟩
  | 12 => ⟨S300, .i32⟩
  | 13 => ⟨S300, .i32⟩
  | 14 => ⟨S300, .i32⟩
  | 15 => ⟨S_, .i32⟩
  | 16 => ⟨S300, .i32⟩
  | 17 => ⟨S300, .i1⟩
  | 18 => ⟨S_, .i32⟩
  | 19 => ⟨S300, .i32⟩
  | 20 => ⟨S300, .i32⟩
  | 21 => ⟨S300, .i32⟩
  | 22 => ⟨S_, .i32⟩
  | 23 => ⟨S300, .i32⟩
  | 24 => ⟨S300, .i1⟩
  | 25 => ⟨S_, .i32⟩
  | 26 => ⟨S300, .i32⟩
  | 27 => ⟨S300, .i32⟩
  | 28 => ⟨S300, .i32⟩
  | 29 => ⟨S_, .i32⟩
  | 30 => ⟨S300, .i32⟩
  | 31 => ⟨S300, .i1⟩
  | 32 => ⟨S_, .i32⟩
  | 33 => ⟨S300, .i32⟩
  | 34 => ⟨S300, .i32⟩
  | 35 => ⟨S300, .i32⟩
  | 36 => ⟨S300x1, .i32⟩
  | 37 => ⟨S300x1, .i32⟩
  | 38 => ⟨S300x1, .i32⟩
  | 39 => ⟨S300x1, .i32⟩
  | 40 => ⟨S300x4, .i32⟩
  | 41 => ⟨S_, .i32⟩
  | 42 => ⟨S300, .i32⟩
  | 43 => ⟨S16x3x76x76, .i32⟩
  | 44 => ⟨S_, .i32⟩
  | 45 => ⟨S16x3x76x76, .i32⟩
  | 46 => ⟨S_, .i32⟩
  | 47 => ⟨S300, .i32⟩
  | 48 => ⟨S300, .i1⟩
  | 49 => ⟨S_, .i32⟩
  | 50 => ⟨S300, .i32⟩
  | 51 => ⟨S300, .i32⟩
  | 52 => ⟨S300, .i32⟩
  | 53 => ⟨S_, .i32⟩
  | 54 => ⟨S300, .i32⟩
  | 55 => ⟨S300, .i1⟩
  | 56 => ⟨S_, .i32⟩
  | 57 => ⟨S300, .i32⟩
  | 58 => ⟨S300, .i32⟩
  | 59 => ⟨S300, .i32⟩
  | 60 => ⟨S_, .i32⟩
  | 61 => ⟨S300, .i32⟩
  | 62 => ⟨S300, .i1⟩
  | 63 => ⟨S_, .i32⟩
  | 64 => ⟨S300, .i32⟩
  | 65 => ⟨S300, .i32⟩
  | 66 => ⟨S300, .i32⟩
  | 67 => ⟨S_, .i32⟩
  | 68 => ⟨S300, .i32⟩
  | 69 => ⟨S300, .i1⟩
  | 70 => ⟨S_, .i32⟩
  | 71 => ⟨S300, .i32⟩
  | 72 => ⟨S300, .i32⟩
  | 73 => ⟨S300, .i32⟩
  | 74 => ⟨S300x1, .i32⟩
  | 75 => ⟨S300x1, .i32⟩
  | 76 => ⟨S300x1, .i32⟩
  | 77 => ⟨S300x1, .i32⟩
  | 78 => ⟨S300x4, .i32⟩
  | 79 => ⟨S_, .i32⟩
  | 80 => ⟨S300, .i32⟩
  | 81 => ⟨S16x3x76x76, .i32⟩
  | 82 => ⟨S300x3, .f32⟩
  | 83 => ⟨S_, .f32⟩
  | 84 => ⟨S300x3, .f32⟩
  | 85 => ⟨S300x3, .i1⟩
  | 86 => ⟨S300x3, .i32⟩
  | 87 => ⟨S300x1, .i32⟩
  | 88 => ⟨S3, .i32⟩
  | 89 => ⟨S1x3, .i32⟩
  | 90 => ⟨S300x1, .i32⟩
  | 91 => ⟨S300x1, .i32⟩
  | 92 => ⟨S_, .i32⟩
  | 93 => ⟨S300x1, .i32⟩
  | 94 => ⟨S300x1, .i1⟩
  | 95 => ⟨S_, .i32⟩
  | 96 => ⟨S300x1, .i32⟩
  | 97 => ⟨S300x1, .i32⟩
  | 98 => ⟨S300x1, .i32⟩
  | 99 => ⟨S_, .i32⟩
  | 100 => ⟨S1x3, .i32⟩
  | 101 => ⟨S1x3, .i1⟩
  | 102 => ⟨S_, .i32⟩
  | 103 => ⟨S1x3, .i32⟩
  | 104 => ⟨S1x3, .i32⟩
  | 105 => ⟨S1x3, .i32⟩
  | 106 => ⟨S_, .i32⟩
  | 107 => ⟨S300x1, .i32⟩
  | 108 => ⟨S300x1, .i1⟩
  | 109 => ⟨S_, .i32⟩
  | 110 => ⟨S300x1, .i32⟩
  | 111 => ⟨S300x1, .i32⟩
  | 112 => ⟨S300x1, .i32⟩
  | 113 => ⟨S_, .i32⟩
  | 114 => ⟨S300x1, .i32⟩
  | 115 => ⟨S300x1, .i1⟩
  | 116 => ⟨S_, .i32⟩
  | 117 => ⟨S300x1, .i32⟩
  | 118 => ⟨S300x1, .i32⟩
  | 119 => ⟨S300x1, .i32⟩
  | 120 => ⟨S300x3, .i32⟩
  | 121 => ⟨S300x3, .i32⟩
  | 122 => ⟨S300x3, .i32⟩
  | 123 => ⟨S300x3, .i32⟩
  | 124 => ⟨S300x3x1, .i32⟩
  | 125 => ⟨S300x3x1, .i32⟩
  | 126 => ⟨S300x3x1, .i32⟩
  | 127 => ⟨S300x3x1, .i32⟩
  | _ => ⟨S16x255x76x76, .f32⟩

abbrev hbmTy0_2 (i : Nat) : BufTy := match i % 128 with
  | 0 => ⟨S300x3x4, .i32⟩
  | 1 => ⟨S16x3x76x76, .i32⟩
  | 2 => ⟨S_, .f32⟩
  | 3 => ⟨S16x3x76x76, .f32⟩
  | 4 => ⟨S_, .i32⟩
  | 5 => ⟨S300, .i32⟩
  | 6 => ⟨S300, .i1⟩
  | 7 => ⟨S_, .i32⟩
  | 8 => ⟨S300, .i32⟩
  | 9 => ⟨S300, .i32⟩
  | 10 => ⟨S300, .i32⟩
  | 11 => ⟨S_, .i32⟩
  | 12 => ⟨S300, .i32⟩
  | 13 => ⟨S300, .i1⟩
  | 14 => ⟨S_, .i32⟩
  | 15 => ⟨S300, .i32⟩
  | 16 => ⟨S300, .i32⟩
  | 17 => ⟨S300, .i32⟩
  | 18 => ⟨S_, .i32⟩
  | 19 => ⟨S300, .i32⟩
  | 20 => ⟨S300, .i1⟩
  | 21 => ⟨S_, .i32⟩
  | 22 => ⟨S300, .i32⟩
  | 23 => ⟨S300, .i32⟩
  | 24 => ⟨S300, .i32⟩
  | 25 => ⟨S_, .i32⟩
  | 26 => ⟨S300, .i32⟩
  | 27 => ⟨S300, .i1⟩
  | 28 => ⟨S_, .i32⟩
  | 29 => ⟨S300, .i32⟩
  | 30 => ⟨S300, .i32⟩
  | 31 => ⟨S300, .i32⟩
  | 32 => ⟨S300x1, .i32⟩
  | 33 => ⟨S300x1, .i32⟩
  | 34 => ⟨S300x1, .i32⟩
  | 35 => ⟨S300x1, .i32⟩
  | 36 => ⟨S300x4, .i32⟩
  | 37 => ⟨S16x3x76x76, .f32⟩
  | 38 => ⟨S_, .f32⟩
  | 39 => ⟨S16x3x76x76, .f32⟩
  | 40 => ⟨S_, .i32⟩
  | 41 => ⟨S300, .i32⟩
  | 42 => ⟨S300, .i1⟩
  | 43 => ⟨S_, .i32⟩
  | 44 => ⟨S300, .i32⟩
  | 45 => ⟨S300, .i32⟩
  | 46 => ⟨S300, .i32⟩
  | 47 => ⟨S_, .i32⟩
  | 48 => ⟨S300, .i32⟩
  | 49 => ⟨S300, .i1⟩
  | 50 => ⟨S_, .i32⟩
  | 51 => ⟨S300, .i32⟩
  | 52 => ⟨S300, .i32⟩
  | 53 => ⟨S300, .i32⟩
  | 54 => ⟨S_, .i32⟩
  | 55 => ⟨S300, .i32⟩
  | 56 => ⟨S300, .i1⟩
  | 57 => ⟨S_, .i32⟩
  | 58 => ⟨S300, .i32⟩
  | 59 => ⟨S300, .i32⟩
  | 60 => ⟨S300, .i32⟩
  | 61 => ⟨S_, .i32⟩
  | 62 => ⟨S300, .i32⟩
  | 63 => ⟨S300, .i1⟩
  | 64 => ⟨S_, .i32⟩
  | 65 => ⟨S300, .i32⟩
  | 66 => ⟨S300, .i32⟩
  | 67 => ⟨S300, .i32⟩
  | 68 => ⟨S300x1, .i32⟩
  | 69 => ⟨S300x1, .i32⟩
  | 70 => ⟨S300x1, .i32⟩
  | 71 => ⟨S300x1, .i32⟩
  | 72 => ⟨S300x4, .i32⟩
  | 73 => ⟨S16x3x76x76, .f32⟩
  | 74 => ⟨S_, .f32⟩
  | 75 => ⟨S16x3x76x76, .f32⟩
  | 76 => ⟨S_, .i32⟩
  | 77 => ⟨S300, .i32⟩
  | 78 => ⟨S300, .i1⟩
  | 79 => ⟨S_, .i32⟩
  | 80 => ⟨S300, .i32⟩
  | 81 => ⟨S300, .i32⟩
  | 82 => ⟨S300, .i32⟩
  | 83 => ⟨S_, .i32⟩
  | 84 => ⟨S300, .i32⟩
  | 85 => ⟨S300, .i1⟩
  | 86 => ⟨S_, .i32⟩
  | 87 => ⟨S300, .i32⟩
  | 88 => ⟨S300, .i32⟩
  | 89 => ⟨S300, .i32⟩
  | 90 => ⟨S_, .i32⟩
  | 91 => ⟨S300, .i32⟩
  | 92 => ⟨S300, .i1⟩
  | 93 => ⟨S_, .i32⟩
  | 94 => ⟨S300, .i32⟩
  | 95 => ⟨S300, .i32⟩
  | 96 => ⟨S300, .i32⟩
  | 97 => ⟨S_, .i32⟩
  | 98 => ⟨S300, .i32⟩
  | 99 => ⟨S300, .i1⟩
  | 100 => ⟨S_, .i32⟩
  | 101 => ⟨S300, .i32⟩
  | 102 => ⟨S300, .i32⟩
  | 103 => ⟨S300, .i32⟩
  | 104 => ⟨S300x1, .i32⟩
  | 105 => ⟨S300x1, .i32⟩
  | 106 => ⟨S300x1, .i32⟩
  | 107 => ⟨S300x1, .i32⟩
  | 108 => ⟨S300x4, .i32⟩
  | 109 => ⟨S16x3x76x76, .f32⟩
  | 110 => ⟨S_, .f32⟩
  | 111 => ⟨S16x3x76x76, .f32⟩
  | 112 => ⟨S_, .i32⟩
  | 113 => ⟨S300, .i32⟩
  | 114 => ⟨S300, .i1⟩
  | 115 => ⟨S_, .i32⟩
  | 116 => ⟨S300, .i32⟩
  | 117 => ⟨S300, .i32⟩
  | 118 => ⟨S300, .i32⟩
  | 119 => ⟨S_, .i32⟩
  | 120 => ⟨S300, .i32⟩
  | 121 => ⟨S300, .i1⟩
  | 122 => ⟨S_, .i32⟩
  | 123 => ⟨S300, .i32⟩
  | 124 => ⟨S300, .i32⟩
  | 125 => ⟨S300, .i32⟩
  | 126 => ⟨S_, .i32⟩
  | 127 => ⟨S300, .i32⟩
  | _ => ⟨S16x255x76x76, .f32⟩

abbrev hbmTy0_3 (i : Nat) : BufTy := match i % 128 with
  | 0 => ⟨S300, .i1⟩
  | 1 => ⟨S_, .i32⟩
  | 2 => ⟨S300, .i32⟩
  | 3 => ⟨S300, .i32⟩
  | 4 => ⟨S300, .i32⟩
  | 5 => ⟨S_, .i32⟩
  | 6 => ⟨S300, .i32⟩
  | 7 => ⟨S300, .i1⟩
  | 8 => ⟨S_, .i32⟩
  | 9 => ⟨S300, .i32⟩
  | 10 => ⟨S300, .i32⟩
  | 11 => ⟨S300, .i32⟩
  | 12 => ⟨S300x1, .i32⟩
  | 13 => ⟨S300x1, .i32⟩
  | 14 => ⟨S300x1, .i32⟩
  | 15 => ⟨S300x1, .i32⟩
  | 16 => ⟨S300x4, .i32⟩
  | 17 => ⟨S16x3x76x76, .f32⟩
  | 18 => ⟨S_, .i32⟩
  | 19 => ⟨S16x3x76x76, .i32⟩
  | 20 => ⟨S16x3x76x76, .i1⟩
  | 21 => ⟨S16x3x76x76, .i1⟩
  | 22 => ⟨S_, .i32⟩
  | 23 => ⟨S16x3x76x76, .i32⟩
  | 24 => ⟨S16x3x76x76, .i1⟩
  | 25 => ⟨S16x3x76x76, .i1⟩
  | 26 => ⟨S16x3x76x76, .f32⟩
  | 27 => ⟨S_, .f32⟩
  | 28 => ⟨S16x3x76x76, .f32⟩
  | 29 => ⟨S16x3x76x76, .f32⟩
  | 30 => ⟨S_, .f32⟩
  | 31 => ⟨S16x3x76x76, .f32⟩
  | 32 => ⟨S16x3x76x76, .f32⟩
  | 33 => ⟨S16x3x76x76, .f32⟩
  | 34 => ⟨S16x3x76x76, .f32⟩
  | 35 => ⟨S16x3x76x76, .f32⟩
  | 36 => ⟨S16x3x76x76, .f32⟩
  | 37 => ⟨S16x3x76x76, .f32⟩
  | 38 => ⟨S16x3x76x76, .f32⟩
  | 39 => ⟨S16x3x76x76, .f32⟩
  | 40 => ⟨S16x3x76x76, .f32⟩
  | 41 => ⟨S16x3x76x76, .f32⟩
  | 42 => ⟨S_, .f32⟩
  | 43 => ⟨S_, .f32⟩
  | 44 => ⟨S_, .f32⟩
  | 45 => ⟨S_, .f32⟩
  | 46 => ⟨S16x3x76x76, .f32⟩
  | 47 => ⟨S16x3x76x76, .f32⟩
  | 48 => ⟨S_, .f32⟩
  | 49 => ⟨S_, .f32⟩
  | 50 => ⟨S16x3x76x76, .f32⟩
  | 51 => ⟨S16x3x76x76, .f32⟩
  | 52 => ⟨S_, .f32⟩
  | 53 => ⟨S_, .f32⟩
  | 54 => ⟨S_, .f32⟩
  | 55 => ⟨S16x3x76x76, .f32⟩
  | 56 => ⟨S16x3x76x76, .f32⟩
  | 57 => ⟨S_, .f32⟩
  | 58 => ⟨S_, .f32⟩
  | 59 => ⟨S16x3x76x76, .f32⟩
  | 60 => ⟨S16x3x76x76, .f32⟩
  | 61 => ⟨S_, .f32⟩
  | 62 => ⟨S_, .f32⟩
  | 63 => ⟨S_, .f32⟩
  | 64 => ⟨S_, .f32⟩
  | 65 => ⟨S_, .f32⟩
  | 66 => ⟨S16x3x76x76, .f32⟩
  | 67 => ⟨S16x3x76x76, .f32⟩
  | 68 => ⟨S16x3x76x76, .f32⟩
  | 69 => ⟨S_, .f32⟩
  | 70 => ⟨S_, .f32⟩
  | 71 => ⟨S16x3x76x76, .f32⟩
  | 72 => ⟨S16x3x76x76, .f32⟩
  | 73 => ⟨S16x3x76x76, .f32⟩
  | 74 => ⟨S16x3x76x76, .f32⟩
  | 75 => ⟨S16x3x76x76, .f32⟩
  | 76 => ⟨S_, .f32⟩
  | 77 => ⟨S_, .f32⟩
  | 78 => ⟨S16x3x76x76, .f32⟩
  | 79 => ⟨S16x3x76x76, .f32⟩
  | 80 => ⟨S_, .f32⟩
  | 81 => ⟨S_, .f32⟩
  | 82 => ⟨S_, .f32⟩
  | 83 => ⟨S16x3x76x76, .f32⟩
  | 84 => ⟨S16x3x76x76, .f32⟩
  | 85 => ⟨S_, .f32⟩
  | 86 => ⟨S_, .f32⟩
  | 87 => ⟨S16x3x76x76, .f32⟩
  | 88 => ⟨S16x3x76x76, .f32⟩
  | 89 => ⟨S_, .f32⟩
  | 90 => ⟨S_, .f32⟩
  | 91 => ⟨S_, .f32⟩
  | 92 => ⟨S_, .f32⟩
  | 93 => ⟨S16x3x76x76, .f32⟩
  | 94 => ⟨S16x3x76x76, .i1⟩
  | 95 => ⟨S_, .f32⟩
  | 96 => ⟨S_, .f32⟩
  | 97 => ⟨S16x3x76x76, .f32⟩
  | 98 => ⟨S16x3x76x76, .f32⟩
  | 99 => ⟨S16x3x76x76, .f32⟩
  | 100 => ⟨S_, .f32⟩
  | 101 => ⟨S16x3x76x76, .f32⟩
  | 102 => ⟨S16x3x76x76, .f32⟩
  | 103 => ⟨S_, .f32⟩
  | 104 => ⟨S16x3x76x76, .f32⟩
  | 105 => ⟨S16x3x76x76, .i1⟩
  | 106 => ⟨S_, .f32⟩
  | 107 => ⟨S16x3x76x76, .f32⟩
  | 108 => ⟨S16x3x76x76, .f32⟩
  | 109 => ⟨S_, .f32⟩
  | 110 => ⟨S_, .f32⟩
  | 111 => ⟨S16x3x76x76, .f32⟩
  | 112 => ⟨S16x3x76x76, .f32⟩
  | 113 => ⟨S16x3x76x76, .f32⟩
  | 114 => ⟨S_, .f32⟩
  | 115 => ⟨S16x3x76x76, .f32⟩
  | 116 => ⟨S16x3x76x76, .f32⟩
  | 117 => ⟨S16x3x76x76, .f32⟩
  | 118 => ⟨S_, .f32⟩
  | 119 => ⟨S16x3x76x76, .f32⟩
  | 120 => ⟨S16x3x76x76, .f32⟩
  | 121 => ⟨S16x3x76x76, .f32⟩
  | 122 => ⟨S16x3x76x76, .f32⟩
  | 123 => ⟨S16x3x76x76, .f32⟩
  | 124 => ⟨S16x3x76x76, .f32⟩
  | 125 => ⟨S_, .f32⟩
  | 126 => ⟨S_, .f32⟩
  | 127 => ⟨S_, .f32⟩
  | _ => ⟨S16x255x76x76, .f32⟩

abbrev hbmTy0_4 (i : Nat) : BufTy := match i % 128 with
  | 0 => ⟨S_, .f32⟩
  | 1 => ⟨S_, .f32⟩
  | 2 => ⟨S_, .f32⟩
  | 3 => ⟨S16x3x76x76, .f32⟩
  | 4 => ⟨S16x3x76x76, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S16x3x76x76, .f32⟩
  | 13 => ⟨S16x3x76x76, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S16x255x76x76, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x255x76x76, .f32⟩

abbrev bufTy : (tb : Table) → Fin (tcTables nBuf tb) → BufTy
  | .hbm, ⟨i, _⟩ => hbmTy i
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_8 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_9 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_10 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_11 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_c : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_v101 : Ref sig .tc := ⟨.hbm, 120, rfl⟩
abbrev main_c_12 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_13 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_14 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_c_15 : Ref sig .tc := ⟨.hbm, 134, rfl⟩
abbrev main_v112 : Ref sig .tc := ⟨.hbm, 135, rfl⟩
abbrev main_c_16 : Ref sig .tc := ⟨.hbm, 136, rfl⟩
abbrev main_v113 : Ref sig .tc := ⟨.hbm, 137, rfl⟩
abbrev main_v114 : Ref sig .tc := ⟨.hbm, 138, rfl⟩
abbrev main_c_17 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_c_18 : Ref sig .tc := ⟨.hbm, 143, rfl⟩
abbrev main_v118 : Ref sig .tc := ⟨.hbm, 144, rfl⟩
abbrev main_v119 : Ref sig .tc := ⟨.hbm, 145, rfl⟩
abbrev main_c_19 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_20 : Ref sig .tc := ⟨.hbm, 150, rfl⟩
abbrev main_v123 : Ref sig .tc := ⟨.hbm, 151, rfl⟩
abbrev main_v124 : Ref sig .tc := ⟨.hbm, 152, rfl⟩
abbrev main_c_21 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_c_22 : Ref sig .tc := ⟨.hbm, 157, rfl⟩
abbrev main_v128 : Ref sig .tc := ⟨.hbm, 158, rfl⟩
abbrev main_v129 : Ref sig .tc := ⟨.hbm, 159, rfl⟩
abbrev main_c_23 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_c_24 : Ref sig .tc := ⟨.hbm, 169, rfl⟩
abbrev main_v138 : Ref sig .tc := ⟨.hbm, 170, rfl⟩
abbrev main_v139 : Ref sig .tc := ⟨.hbm, 171, rfl⟩
abbrev main_c_25 : Ref sig .tc := ⟨.hbm, 172, rfl⟩
abbrev main_v140 : Ref sig .tc := ⟨.hbm, 173, rfl⟩
abbrev main_c_26 : Ref sig .tc := ⟨.hbm, 174, rfl⟩
abbrev main_v141 : Ref sig .tc := ⟨.hbm, 175, rfl⟩
abbrev main_v142 : Ref sig .tc := ⟨.hbm, 176, rfl⟩
abbrev main_c_27 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_c_28 : Ref sig .tc := ⟨.hbm, 181, rfl⟩
abbrev main_v146 : Ref sig .tc := ⟨.hbm, 182, rfl⟩
abbrev main_v147 : Ref sig .tc := ⟨.hbm, 183, rfl⟩
abbrev main_c_29 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_c_30 : Ref sig .tc := ⟨.hbm, 188, rfl⟩
abbrev main_v151 : Ref sig .tc := ⟨.hbm, 189, rfl⟩
abbrev main_v152 : Ref sig .tc := ⟨.hbm, 190, rfl⟩
abbrev main_c_31 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_c_32 : Ref sig .tc := ⟨.hbm, 195, rfl⟩
abbrev main_v156 : Ref sig .tc := ⟨.hbm, 196, rfl⟩
abbrev main_v157 : Ref sig .tc := ⟨.hbm, 197, rfl⟩
abbrev main_c_33 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_c_34 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_35 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_c_36 : Ref sig .tc := ⟨.hbm, 220, rfl⟩
abbrev main_v177 : Ref sig .tc := ⟨.hbm, 221, rfl⟩
abbrev main_v178 : Ref sig .tc := ⟨.hbm, 222, rfl⟩
abbrev main_c_37 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_c_38 : Ref sig .tc := ⟨.hbm, 227, rfl⟩
abbrev main_v182 : Ref sig .tc := ⟨.hbm, 228, rfl⟩
abbrev main_v183 : Ref sig .tc := ⟨.hbm, 229, rfl⟩
abbrev main_c_39 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_c_40 : Ref sig .tc := ⟨.hbm, 234, rfl⟩
abbrev main_v187 : Ref sig .tc := ⟨.hbm, 235, rfl⟩
abbrev main_v188 : Ref sig .tc := ⟨.hbm, 236, rfl⟩
abbrev main_c_41 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_c_42 : Ref sig .tc := ⟨.hbm, 241, rfl⟩
abbrev main_v192 : Ref sig .tc := ⟨.hbm, 242, rfl⟩
abbrev main_v193 : Ref sig .tc := ⟨.hbm, 243, rfl⟩
abbrev main_c_43 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_cst_44 : Ref sig .tc := ⟨.hbm, 258, rfl⟩
abbrev main_v207 : Ref sig .tc := ⟨.hbm, 259, rfl⟩
abbrev main_c_45 : Ref sig .tc := ⟨.hbm, 260, rfl⟩
abbrev main_v208 : Ref sig .tc := ⟨.hbm, 261, rfl⟩
abbrev main_v209 : Ref sig .tc := ⟨.hbm, 262, rfl⟩
abbrev main_c_46 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_c_47 : Ref sig .tc := ⟨.hbm, 267, rfl⟩
abbrev main_v213 : Ref sig .tc := ⟨.hbm, 268, rfl⟩
abbrev main_v214 : Ref sig .tc := ⟨.hbm, 269, rfl⟩
abbrev main_c_48 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_c_49 : Ref sig .tc := ⟨.hbm, 274, rfl⟩
abbrev main_v218 : Ref sig .tc := ⟨.hbm, 275, rfl⟩
abbrev main_v219 : Ref sig .tc := ⟨.hbm, 276, rfl⟩
abbrev main_c_50 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_c_51 : Ref sig .tc := ⟨.hbm, 281, rfl⟩
abbrev main_v223 : Ref sig .tc := ⟨.hbm, 282, rfl⟩
abbrev main_v224 : Ref sig .tc := ⟨.hbm, 283, rfl⟩
abbrev main_c_52 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_cst_53 : Ref sig .tc := ⟨.hbm, 294, rfl⟩
abbrev main_v234 : Ref sig .tc := ⟨.hbm, 295, rfl⟩
abbrev main_c_54 : Ref sig .tc := ⟨.hbm, 296, rfl⟩
abbrev main_v235 : Ref sig .tc := ⟨.hbm, 297, rfl⟩
abbrev main_v236 : Ref sig .tc := ⟨.hbm, 298, rfl⟩
abbrev main_c_55 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_c_56 : Ref sig .tc := ⟨.hbm, 303, rfl⟩
abbrev main_v240 : Ref sig .tc := ⟨.hbm, 304, rfl⟩
abbrev main_v241 : Ref sig .tc := ⟨.hbm, 305, rfl⟩
abbrev main_c_57 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_c_58 : Ref sig .tc := ⟨.hbm, 310, rfl⟩
abbrev main_v245 : Ref sig .tc := ⟨.hbm, 311, rfl⟩
abbrev main_v246 : Ref sig .tc := ⟨.hbm, 312, rfl⟩
abbrev main_c_59 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_c_60 : Ref sig .tc := ⟨.hbm, 317, rfl⟩
abbrev main_v250 : Ref sig .tc := ⟨.hbm, 318, rfl⟩
abbrev main_v251 : Ref sig .tc := ⟨.hbm, 319, rfl⟩
abbrev main_c_61 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_cst_62 : Ref sig .tc := ⟨.hbm, 330, rfl⟩
abbrev main_v261 : Ref sig .tc := ⟨.hbm, 331, rfl⟩
abbrev main_c_63 : Ref sig .tc := ⟨.hbm, 332, rfl⟩
abbrev main_v262 : Ref sig .tc := ⟨.hbm, 333, rfl⟩
abbrev main_v263 : Ref sig .tc := ⟨.hbm, 334, rfl⟩
abbrev main_c_64 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_c_65 : Ref sig .tc := ⟨.hbm, 339, rfl⟩
abbrev main_v267 : Ref sig .tc := ⟨.hbm, 340, rfl⟩
abbrev main_v268 : Ref sig .tc := ⟨.hbm, 341, rfl⟩
abbrev main_c_66 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_c_67 : Ref sig .tc := ⟨.hbm, 346, rfl⟩
abbrev main_v272 : Ref sig .tc := ⟨.hbm, 347, rfl⟩
abbrev main_v273 : Ref sig .tc := ⟨.hbm, 348, rfl⟩
abbrev main_c_68 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_c_69 : Ref sig .tc := ⟨.hbm, 353, rfl⟩
abbrev main_v277 : Ref sig .tc := ⟨.hbm, 354, rfl⟩
abbrev main_v278 : Ref sig .tc := ⟨.hbm, 355, rfl⟩
abbrev main_c_70 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_v286 : Ref sig .tc := ⟨.hbm, 364, rfl⟩
abbrev main_v287 : Ref sig .tc := ⟨.hbm, 365, rfl⟩
abbrev main_cst_71 : Ref sig .tc := ⟨.hbm, 366, rfl⟩
abbrev main_v288 : Ref sig .tc := ⟨.hbm, 367, rfl⟩
abbrev main_c_72 : Ref sig .tc := ⟨.hbm, 368, rfl⟩
abbrev main_v289 : Ref sig .tc := ⟨.hbm, 369, rfl⟩
abbrev main_v290 : Ref sig .tc := ⟨.hbm, 370, rfl⟩
abbrev main_c_73 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_c_74 : Ref sig .tc := ⟨.hbm, 375, rfl⟩
abbrev main_v294 : Ref sig .tc := ⟨.hbm, 376, rfl⟩
abbrev main_v295 : Ref sig .tc := ⟨.hbm, 377, rfl⟩
abbrev main_c_75 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_c_76 : Ref sig .tc := ⟨.hbm, 382, rfl⟩
abbrev main_v299 : Ref sig .tc := ⟨.hbm, 383, rfl⟩
abbrev main_v300 : Ref sig .tc := ⟨.hbm, 384, rfl⟩
abbrev main_c_77 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_c_78 : Ref sig .tc := ⟨.hbm, 389, rfl⟩
abbrev main_v304 : Ref sig .tc := ⟨.hbm, 390, rfl⟩
abbrev main_v305 : Ref sig .tc := ⟨.hbm, 391, rfl⟩
abbrev main_c_79 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_c_80 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_c_81 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_cst_82 : Ref sig .tc := ⟨.hbm, 411, rfl⟩
abbrev main_v322 : Ref sig .tc := ⟨.hbm, 412, rfl⟩
abbrev main_v323 : Ref sig .tc := ⟨.hbm, 413, rfl⟩
abbrev main_cst_83 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩
abbrev main_cst_84 : Ref sig .tc := ⟨.hbm, 426, rfl⟩
abbrev main_v335 : Ref sig .tc := ⟨.hbm, 427, rfl⟩
abbrev main_cst_85 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_cst_86 : Ref sig .tc := ⟨.hbm, 432, rfl⟩
abbrev main_call1_v0 : Ref sig .tc := ⟨.hbm, 433, rfl⟩
abbrev main_call1_v1 : Ref sig .tc := ⟨.hbm, 434, rfl⟩
abbrev main_v339 : Ref sig .tc := ⟨.hbm, 435, rfl⟩
abbrev main_cst_87 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_v343 : Ref sig .tc := ⟨.hbm, 440, rfl⟩
abbrev main_cst_88 : Ref sig .tc := ⟨.hbm, 441, rfl⟩
abbrev main_call2_v0 : Ref sig .tc := ⟨.hbm, 442, rfl⟩
abbrev main_call2_v1 : Ref sig .tc := ⟨.hbm, 443, rfl⟩
abbrev main_v344 : Ref sig .tc := ⟨.hbm, 444, rfl⟩
abbrev main_cst_89 : Ref sig .tc := ⟨.hbm, 445, rfl⟩
abbrev main_v345 : Ref sig .tc := ⟨.hbm, 446, rfl⟩
abbrev main_v346 : Ref sig .tc := ⟨.hbm, 447, rfl⟩
abbrev main_cst_90 : Ref sig .tc := ⟨.hbm, 448, rfl⟩
abbrev main_call3_v0 : Ref sig .tc := ⟨.hbm, 449, rfl⟩
abbrev main_call3_v1 : Ref sig .tc := ⟨.hbm, 450, rfl⟩
abbrev main_v347 : Ref sig .tc := ⟨.hbm, 451, rfl⟩
abbrev main_v348 : Ref sig .tc := ⟨.hbm, 452, rfl⟩
abbrev main_cst_91 : Ref sig .tc := ⟨.hbm, 453, rfl⟩
abbrev main_call4_v0 : Ref sig .tc := ⟨.hbm, 454, rfl⟩
abbrev main_call4_v1 : Ref sig .tc := ⟨.hbm, 455, rfl⟩
abbrev main_v349 : Ref sig .tc := ⟨.hbm, 456, rfl⟩
abbrev main_v350 : Ref sig .tc := ⟨.hbm, 457, rfl⟩
abbrev main_v351 : Ref sig .tc := ⟨.hbm, 458, rfl⟩
abbrev main_v352 : Ref sig .tc := ⟨.hbm, 459, rfl⟩
abbrev main_cst_92 : Ref sig .tc := ⟨.hbm, 460, rfl⟩
abbrev main_call5_v0 : Ref sig .tc := ⟨.hbm, 461, rfl⟩
abbrev main_call5_v1 : Ref sig .tc := ⟨.hbm, 462, rfl⟩
abbrev main_v353 : Ref sig .tc := ⟨.hbm, 463, rfl⟩
abbrev main_cst_93 : Ref sig .tc := ⟨.hbm, 464, rfl⟩
abbrev main_v354 : Ref sig .tc := ⟨.hbm, 465, rfl⟩
abbrev main_v355 : Ref sig .tc := ⟨.hbm, 466, rfl⟩
abbrev main_v356 : Ref sig .tc := ⟨.hbm, 467, rfl⟩
abbrev main_v357 : Ref sig .tc := ⟨.hbm, 468, rfl⟩
abbrev main_cst_94 : Ref sig .tc := ⟨.hbm, 469, rfl⟩
abbrev main_call6_v0 : Ref sig .tc := ⟨.hbm, 470, rfl⟩
abbrev main_call6_v1 : Ref sig .tc := ⟨.hbm, 471, rfl⟩
abbrev main_v358 : Ref sig .tc := ⟨.hbm, 472, rfl⟩
abbrev main_cst_95 : Ref sig .tc := ⟨.hbm, 473, rfl⟩
abbrev main_v359 : Ref sig .tc := ⟨.hbm, 474, rfl⟩
abbrev main_v360 : Ref sig .tc := ⟨.hbm, 475, rfl⟩
abbrev main_cst_96 : Ref sig .tc := ⟨.hbm, 476, rfl⟩
abbrev main_v361 : Ref sig .tc := ⟨.hbm, 477, rfl⟩
abbrev main_v362 : Ref sig .tc := ⟨.hbm, 478, rfl⟩
abbrev main_cst_97 : Ref sig .tc := ⟨.hbm, 479, rfl⟩
abbrev main_call7_v0 : Ref sig .tc := ⟨.hbm, 480, rfl⟩
abbrev main_call7_v1 : Ref sig .tc := ⟨.hbm, 481, rfl⟩
abbrev main_v363 : Ref sig .tc := ⟨.hbm, 482, rfl⟩
abbrev main_v364 : Ref sig .tc := ⟨.hbm, 483, rfl⟩
abbrev main_cst_98 : Ref sig .tc := ⟨.hbm, 484, rfl⟩
abbrev main_v365 : Ref sig .tc := ⟨.hbm, 485, rfl⟩
abbrev main_v366 : Ref sig .tc := ⟨.hbm, 486, rfl⟩
abbrev main_cst_99 : Ref sig .tc := ⟨.hbm, 487, rfl⟩
abbrev main_v367 : Ref sig .tc := ⟨.hbm, 488, rfl⟩
abbrev main_v368 : Ref sig .tc := ⟨.hbm, 489, rfl⟩
abbrev main_cst_100 : Ref sig .tc := ⟨.hbm, 490, rfl⟩
abbrev main_v369 : Ref sig .tc := ⟨.hbm, 491, rfl⟩
abbrev main_v370 : Ref sig .tc := ⟨.hbm, 492, rfl⟩
abbrev main_cst_101 : Ref sig .tc := ⟨.hbm, 493, rfl⟩
abbrev main_call8_v0 : Ref sig .tc := ⟨.hbm, 494, rfl⟩
abbrev main_call8_v1 : Ref sig .tc := ⟨.hbm, 495, rfl⟩
abbrev main_v371 : Ref sig .tc := ⟨.hbm, 496, rfl⟩
abbrev main_v372 : Ref sig .tc := ⟨.hbm, 497, rfl⟩
abbrev main_cst_102 : Ref sig .tc := ⟨.hbm, 498, rfl⟩
abbrev main_v373 : Ref sig .tc := ⟨.hbm, 499, rfl⟩
abbrev main_v374 : Ref sig .tc := ⟨.hbm, 500, rfl⟩
abbrev main_v375 : Ref sig .tc := ⟨.hbm, 501, rfl⟩
abbrev main_cst_103 : Ref sig .tc := ⟨.hbm, 502, rfl⟩
abbrev main_v376 : Ref sig .tc := ⟨.hbm, 503, rfl⟩
abbrev main_v377 : Ref sig .tc := ⟨.hbm, 504, rfl⟩
abbrev main_v378 : Ref sig .tc := ⟨.hbm, 505, rfl⟩
abbrev main_v379 : Ref sig .tc := ⟨.hbm, 506, rfl⟩
abbrev main_v380 : Ref sig .tc := ⟨.hbm, 507, rfl⟩
abbrev main_v381 : Ref sig .tc := ⟨.hbm, 508, rfl⟩
abbrev main_cst_104 : Ref sig .tc := ⟨.hbm, 509, rfl⟩
abbrev main_v382 : Ref sig .tc := ⟨.hbm, 510, rfl⟩
abbrev main_cst_105 : Ref sig .tc := ⟨.hbm, 511, rfl⟩
abbrev main_v383 : Ref sig .tc := ⟨.hbm, 512, rfl⟩
abbrev main_cst_106 : Ref sig .tc := ⟨.hbm, 513, rfl⟩
abbrev main_call9_v0 : Ref sig .tc := ⟨.hbm, 514, rfl⟩
abbrev main_call9_v1 : Ref sig .tc := ⟨.hbm, 515, rfl⟩
abbrev main_v384 : Ref sig .tc := ⟨.hbm, 516, rfl⟩
abbrev main_cst_107 : Ref sig .tc := ⟨.hbm, 517, rfl⟩
abbrev main_v385 : Ref sig .tc := ⟨.hbm, 518, rfl⟩
abbrev main_v386 : Ref sig .tc := ⟨.hbm, 519, rfl⟩
abbrev main_cst_108 : Ref sig .tc := ⟨.hbm, 520, rfl⟩
abbrev main_v387 : Ref sig .tc := ⟨.hbm, 521, rfl⟩
abbrev main_cst_109 : Ref sig .tc := ⟨.hbm, 522, rfl⟩
abbrev main_call10_v0 : Ref sig .tc := ⟨.hbm, 523, rfl⟩
abbrev main_call10_v1 : Ref sig .tc := ⟨.hbm, 524, rfl⟩
abbrev main_v388 : Ref sig .tc := ⟨.hbm, 525, rfl⟩
abbrev main_cst_110 : Ref sig .tc := ⟨.hbm, 526, rfl⟩
abbrev main_v389 : Ref sig .tc := ⟨.hbm, 527, rfl⟩
abbrev main_v390 : Ref sig .tc := ⟨.hbm, 528, rfl⟩
abbrev main_cst_111 : Ref sig .tc := ⟨.hbm, 529, rfl⟩
abbrev main_v391 : Ref sig .tc := ⟨.hbm, 530, rfl⟩
abbrev main_v392 : Ref sig .tc := ⟨.hbm, 531, rfl⟩
abbrev main_v393 : Ref sig .tc := ⟨.hbm, 532, rfl⟩
abbrev main_v394 : Ref sig .tc := ⟨.hbm, 533, rfl⟩
abbrev main_v395 : Ref sig .tc := ⟨.hbm, 534, rfl⟩
abbrev main_v396 : Ref sig .tc := ⟨.hbm, 535, rfl⟩

abbrev nD : Nat := 1
abbrev τ : Topo := Topo.v7x

variable {F : FTy → Type} [FloatOps F]
-- ==== Proof.Frames.lean ====
/- The frame claims and the idealization claim.

   A frame claim says that the program terminates without a fault from every memory, leaves its argument arrays as it
   found them, and ends with every semaphore counter at zero. The kernel's two frames are the generated ones; the
   reference has no semaphores at all, so its frame is its run with the result forgotten.

   The idealization claim lists the three constants that the kernel's idealization names: the areas of the three
   anchors, each the exact product of the anchor's two sides. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The frames once more, where the memory meets the precondition of the value claim. -/
theorem frame_kernelIdeal_pre [Cert.Pre_boxes_in_image_0.Facts] : Cert.quiescent_KernelIdeal_pre_boxes_in_image_0 :=
  fun m ρ _ => Cert.KernelIdeal.Gen.frame m ρ

theorem frame_referenceIdeal_pre [Cert.Pre_boxes_in_image_0.Facts] : Cert.quiescent_ReferenceIdeal_pre_boxes_in_image_0 :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The three named areas have the values their names stand for. -/
theorem preserves : Cert.preserves_Kernel_KernelIdeal :=
  ⟨IdealRules.named_const.statement Cert.KernelIdeal.κ "area0" .f32 0x3B656042#32 _ rfl,
   IdealRules.named_const.statement Cert.KernelIdeal.κ "area1" .f32 0x3C9374BD#32 _ rfl,
   IdealRules.named_const.statement Cert.KernelIdeal.κ "area2" .f32 0x3DD70A3E#32 _ rfl⟩

end Cert.Proof

end
-- ==== Proof.Model.lean ====
/- The loss in the extended reals, written over the numbers it depends on: the kernel's form and the reference's form.

   A `Scene` holds the predictions that the loss reads and the coordinates of the 300 ground-truth boxes. `kernelLoss`
   is what the kernel computes: sums over the boxes, each duplicate counted once, and one sum over all cells.
   `referenceLoss` is what the reference computes: sums over all cells of the masked terms. -/
module

public import Idealize.ShloMosaic.PureOps.Ideal

@[expose] public section

noncomputable section

namespace Cert.Yolo

open Idealize.ShloMosaic
open scoped Classical

/-! ## Constants, each the value of its f32 pattern -/

/-- The side of the grid, 76. -/
def side : EReal := Ideal.ofBits .f32 0x42980000#32
/-- The overlap above which a cell is left out of the no-object loss, 0.5. -/
def half : EReal := Ideal.ofBits .f32 0x3F000000#32
/-- The small number added to a union, 1e-16. -/
def eps : EReal := Ideal.ofBits .f32 0x24E69595#32
/-- The small number put under a logarithm in place of zero, 1e-30. -/
def tiny : EReal := Ideal.ofBits .f32 0x0DA24260#32
/-- The floor of a logarithm, -100. -/
def lo : EReal := Ideal.ofBits .f32 0xC2C80000#32
/-- The weight of the no-object loss, 100. -/
def hundred : EReal := Ideal.ofBits .f32 0x42C80000#32
/-- The number of cells over all images and anchors, 16 * 3 * 76 * 76. -/
def cells : EReal := Ideal.ofBits .f32 0x48876000#32
/-- The widths of the three anchors. -/
def anchorW : Fin 3 → EReal :=
  ![Ideal.ofBits .f32 0x3D4CCCCD#32, Ideal.ofBits .f32 0x3DF5C28F#32, Ideal.ofBits .f32 0x3E99999A#32]
/-- The heights of the three anchors. -/
def anchorH : Fin 3 → EReal :=
  ![Ideal.ofBits .f32 0x3D8F5C29#32, Ideal.ofBits .f32 0x3E19999A#32, Ideal.ofBits .f32 0x3EB33333#32]

/-! ## Functions of one number -/

/-- One where a statement holds, zero where it does not. -/
def ind (p : Prop) : EReal := if p then 1 else 0
/-- The overlap of a box with anchor `a`, both centred at one point. -/
def iou (a : Fin 3) (w h : EReal) : EReal :=
  Ideal.div (min w (anchorW a) * min h (anchorH a))
    (w * h + anchorW a * anchorH a - min w (anchorW a) * min h (anchorH a) + eps)
/-- The anchor that overlaps a box most, the first of equals. -/
def best (w h : EReal) : Fin 3 :=
  if max (iou 0 w h) (iou 1 w h) < iou 2 w h then 2 else if iou 0 w h < iou 1 w h then 1 else 0
/-- The column (or row) of the grid that a coordinate falls in, as the programs compute it: a word. -/
def cellWord (x : EReal) : BitVec 32 := Ideal.fptosi 32 (side * x)
/-- The same as a position in the grid. -/
def cell (x : EReal) : Fin 76 := ⟨min (cellWord x).toNat 75, by omega⟩
/-- Where in its cell a coordinate lies. -/
def frac (x : EReal) : EReal := x * side - Ideal.liftRound Int.floor (x * side)
/-- The logarithm of a prediction's confidence, floored. -/
def logP (z : EReal) : EReal :=
  max (Ideal.log (if 0 < Ideal.logistic z then Ideal.logistic z else tiny)) lo
/-- The logarithm of what the confidence leaves to one, floored. -/
def log1mP (z : EReal) : EReal :=
  max (Ideal.log (if Ideal.logistic z < 1 then 1 - Ideal.logistic z else tiny)) lo
/-- A square. -/
def sq (x : EReal) : EReal := x * x

/-! ## The loss -/

/-- What the loss reads: the five predictions of each cell (image, anchor, channel, row, column) and the boxes. -/
structure Scene where
  z : Fin 16 → Fin 3 → Fin 5 → Fin 76 → Fin 76 → EReal
  x : Fin 300 → EReal
  y : Fin 300 → EReal
  w : Fin 300 → EReal
  h : Fin 300 → EReal

/-- The scene of a prediction (image, channel, row, column), anchor `a`'s channels beginning at `85 a`, and of an array of
    boxes (box, [image, x, y, width, height]). -/
def Scene.of (P : Fin 16 → Fin 255 → Fin 76 → Fin 76 → EReal) (G : Fin 300 → Fin 5 → EReal) : Scene where
  z b a k j i := P b ⟨85 * a.1 + k.1, by omega⟩ j i
  x g := G g 1
  y g := G g 2
  w g := G g 3
  h g := G g 4

namespace Scene

variable (s : Scene)

/-- The overlap of box `g` with anchor `a`. -/
def ov (a : Fin 3) (g : Fin 300) : EReal := iou a (s.w g) (s.h g)
/-- The anchor of box `g`. -/
def anchor (g : Fin 300) : Fin 3 := best (s.w g) (s.h g)
/-- The row of box `g`. -/
def cj (g : Fin 300) : Fin 76 := cell (s.y g)
/-- The column of box `g`. -/
def ci (g : Fin 300) : Fin 76 := cell (s.x g)
/-- Two boxes fall in one cell. -/
def same (g h : Fin 300) : Prop := s.cj g = s.cj h ∧ s.ci g = s.ci h
/-- Box `g` takes its cell at anchor `a` out of the no-object loss. -/
def act (a : Fin 3) (g : Fin 300) : Prop := half < s.ov a g ∨ s.anchor g = a
/-- Box `g` is the last with its cell and anchor. -/
def last (g : Fin 300) : Prop := ¬ ∃ h, g < h ∧ s.same g h ∧ s.anchor g = s.anchor h
/-- Box `g` is the first that takes its cell out of the no-object loss at anchor `a`. -/
def first (a : Fin 3) (g : Fin 300) : Prop := s.act a g ∧ ¬ ∃ h, h < g ∧ s.same g h ∧ s.act a h
/-- The predictions at the cell of box `g`, image 0 and anchor `a`. -/
def at_ (a : Fin 3) (c : Fin 5) (g : Fin 300) : EReal := s.z 0 a c (s.cj g) (s.ci g)
/-- The four coordinate losses and the confidence loss of box `g` at anchor `a`. -/
def term (a : Fin 3) (g : Fin 300) : EReal :=
  sq (Ideal.logistic (s.at_ a 0 g) - frac (s.x g)) + sq (Ideal.logistic (s.at_ a 1 g) - frac (s.y g))
    + sq (s.at_ a 2 g - Ideal.log (Ideal.div (s.w g) (anchorW a)))
    + sq (s.at_ a 3 g - Ideal.log (Ideal.div (s.h g) (anchorH a))) + -logP (s.at_ a 4 g)
/-- One for box `g` if it is counted at anchor `a`. -/
def win (a : Fin 3) (g : Fin 300) : EReal := ind (s.anchor g = a ∧ s.last g)

/-- The loss as the kernel computes it. -/
def kernelLoss : EReal :=
  Ideal.div (∑ a, ∑ g, s.win a g * s.term a g) (max (∑ a, ∑ g, s.win a g) 1)
    + Ideal.div (hundred * ((∑ a, ∑ b, ∑ j, ∑ i, -log1mP (s.z b a 4 j i))
          - ∑ a, ∑ g, ind (s.first a g) * -log1mP (s.at_ a 4 g)))
        (max (cells - ∑ a, ∑ g, ind (s.first a g)) 1)

/-! ### As the reference groups it -/

/-- A cell (image, anchor, row, column) holds an object: some box of image 0 has that anchor and falls in that cell. -/
def obj (b : Fin 16) (a : Fin 3) (j i : Fin 76) : Prop := b = 0 ∧ ∃ g, s.anchor g = a ∧ s.cj g = j ∧ s.ci g = i
/-- A cell counts in the no-object loss: no box takes it out. -/
def noobj (b : Fin 16) (a : Fin 3) (j i : Fin 76) : Prop := ¬(b = 0 ∧ ∃ g, s.act a g ∧ s.cj g = j ∧ s.ci g = i)
/-- The box a cell's targets are taken from: the last with that anchor that falls in it. -/
def holder (a : Fin 3) (j i : Fin 76) : Fin 300 :=
  if h : ∃ g, (s.anchor g = a ∧ s.cj g = j ∧ s.ci g = i) ∧ s.last g then h.choose else 0
/-- A sum over the object cells, of a number read from the cell and its box. -/
def objSum (f : Fin 3 → Fin 76 → Fin 76 → Fin 300 → EReal) : EReal :=
  ∑ b, ∑ a, ∑ j, ∑ i, if s.obj b a j i then f a j i (s.holder a j i) else 0
/-- How many cells hold an object, at least one. -/
def objCount : EReal := max (∑ b, ∑ a, ∑ j, ∑ i, ind (s.obj b a j i)) 1

/-- The loss as the reference computes it: five means over the object cells and a mean over the no-object cells. -/
def referenceLoss : EReal :=
  Ideal.div (s.objSum fun a j i g => sq (Ideal.logistic (s.z 0 a 0 j i) - frac (s.x g))) s.objCount
    + Ideal.div (s.objSum fun a j i g => sq (Ideal.logistic (s.z 0 a 1 j i) - frac (s.y g))) s.objCount
    + Ideal.div (s.objSum fun a j i g => sq (s.z 0 a 2 j i - Ideal.log (Ideal.div (s.w g) (anchorW a)))) s.objCount
    + Ideal.div (s.objSum fun a j i g => sq (s.z 0 a 3 j i - Ideal.log (Ideal.div (s.h g) (anchorH a)))) s.objCount
    + Ideal.div (s.objSum fun a j i _ => -logP (s.z 0 a 4 j i)) s.objCount
    + hundred * Ideal.div (∑ b, ∑ a, ∑ j, ∑ i, if s.noobj b a j i then -log1mP (s.z b a 4 j i) else 0)
        (max (∑ b, ∑ a, ∑ j, ∑ i, ind (s.noobj b a j i)) 1)

end Scene

/-- The boxes' cell words are their cells: what the precondition gives. -/
def CellsOk (S : Scene) : Prop :=
  (∀ g, cellWord (S.x g) = BitVec.ofNat 32 (S.ci g : ℕ)) ∧ ∀ g, cellWord (S.y g) = BitVec.ofNat 32 (S.cj g : ℕ)

end Cert.Yolo
-- ==== Proof.Bits.lean ====
/- Words of one bit read as statements, and the constants' values. -/
module

public import proofs.«01_k».proof.Proof.Model
public import Idealize.ShloMosaic.Lib.Pointwise

@[expose] public section

noncomputable section

namespace Cert.Yolo

open Idealize.ShloMosaic
open scoped Classical

theorem ind_true {p : Prop} (h : p) : ind p = 1 := if_pos h
theorem ind_false {p : Prop} (h : ¬p) : ind p = 0 := if_neg h

theorem bit_cases (b : BitVec 1) : b = 0#1 ∨ b = 1#1 := by revert b; decide

theorem andi_one (a b : BitVec 1) : IntOp.andi a b = 1#1 ↔ a = 1#1 ∧ b = 1#1 := by
  rcases bit_cases a with rfl | rfl <;> rcases bit_cases b with rfl | rfl <;> decide
theorem ori_one (a b : BitVec 1) : IntOp.ori a b = 1#1 ↔ a = 1#1 ∨ b = 1#1 := by
  rcases bit_cases a with rfl | rfl <;> rcases bit_cases b with rfl | rfl <;> decide
theorem xori_one (a : BitVec 1) : IntOp.xori a 1#1 = 1#1 ↔ ¬ a = 1#1 := by
  rcases bit_cases a with rfl | rfl <;> decide
theorem ofBool_one (b : Bool) : BitVec.ofBool b = 1#1 ↔ b = true := by cases b <;> decide
theorem ofBool_decide (p : Prop) [Decidable p] : BitVec.ofBool (decide p) = 1#1 ↔ p := by
  rw [ofBool_one]; exact decide_eq_true_iff
theorem cmpi_eq_one {n : ℕ} (x y : BitVec n) : IntOp.cmpi .eq x y = 1#1 ↔ x = y := by
  show BitVec.ofBool (x == y) = 1#1 ↔ _
  rw [ofBool_one]; exact beq_iff_eq
theorem cmpi_ne_one {n : ℕ} (x y : BitVec n) : IntOp.cmpi .ne x y = 1#1 ↔ x ≠ y := by
  show BitVec.ofBool (x != y) = 1#1 ↔ _
  rw [ofBool_one]; exact bne_iff_ne

/-- A bit widened and turned into a float is one or zero. -/
theorem float_bit (b : BitVec 1) : FloatOps.sitofp (F := Ideal) .f32 (BitVec.setWidth 32 b) = ind (b = 1#1) := by
  rcases bit_cases b with rfl | rfl
  · rw [ind_false (by decide)]
    show (((BitVec.setWidth 32 0#1).toInt : ℝ) : EReal) = 0
    have : (BitVec.setWidth 32 0#1).toInt = 0 := by decide
    rw [this]; simp
  · rw [ind_true rfl]
    show (((BitVec.setWidth 32 1#1).toInt : ℝ) : EReal) = 1
    have : (BitVec.setWidth 32 1#1).toInt = 1 := by decide
    rw [this]; simp

theorem ofBits_bot : Ideal.ofBits FTy.f32 4286578688#32 = ⊥ := by
  simp [Ideal.ofBits, Ideal.ieee]

/-- The greatest of ones and zeros is positive where one of them is a one. -/
theorem fold_max_pos {n : ℕ} (f : Fin n → BitVec 1) :
    0 < Finset.fold max (Ideal.ofBits FTy.f32 4286578688#32) (fun x => Scalar.select (f x) (1 : EReal) 0) Finset.univ
      ↔ ∃ x, f x = 1#1 := by
  rw [Finset.lt_fold_max, ofBits_bot]
  constructor
  · rintro (h | ⟨x, -, h⟩)
    · exact absurd h (by simp)
    · refine ⟨x, ?_⟩
      by_contra hx
      simp [Scalar.select, hx] at h
  · rintro ⟨x, hx⟩
    exact .inr ⟨x, Finset.mem_univ _, by simp [Scalar.select, hx]⟩

theorem side_eq : side = ((76 : ℝ) : EReal) := by
  unfold side; simp [Ideal.ofBits, Ideal.ieee, -EReal.coe_mul]; norm_num
theorem lo_eq : lo = ((-100 : ℝ) : EReal) := by
  unfold lo; simp [Ideal.ofBits, Ideal.ieee, -EReal.coe_mul]; norm_num
theorem hundred_eq : hundred = ((100 : ℝ) : EReal) := by
  unfold hundred; simp [Ideal.ofBits, Ideal.ieee, -EReal.coe_mul]; norm_num
theorem cells_eq : cells = ((277248 : ℝ) : EReal) := by
  unfold cells; simp [Ideal.ofBits, Ideal.ieee, -EReal.coe_mul]; norm_num
theorem tiny_eq : ∃ r : ℝ, tiny = (r : EReal) ∧ 0 < r ∧ r ≤ 1 := by
  refine ⟨_, by unfold tiny; simp [Ideal.ofBits, Ideal.ieee, -EReal.coe_mul]; rfl, ?_, ?_⟩ <;> norm_num

theorem area0_eq : anchorW 0 * anchorH 0 = ((126100791982293 / 36028797018963968 : ℝ) : EReal) := by
  simp [anchorW, anchorH, Ideal.ofBits, Ideal.ieee, -EReal.coe_mul]
  rw [← EReal.coe_mul]; norm_num
theorem area1_eq : anchorW 1 * anchorH 1 = ((81064794701955 / 4503599627370496 : ℝ) : EReal) := by
  simp [anchorW, anchorH, Ideal.ofBits, Ideal.ieee, -EReal.coe_mul]
  rw [← EReal.coe_mul]; norm_num
theorem area2_eq : anchorW 2 * anchorH 2 = ((59109746451415 / 562949953421312 : ℝ) : EReal) := by
  simp [anchorW, anchorH, Ideal.ofBits, Ideal.ieee, -EReal.coe_mul]
  rw [← EReal.coe_mul]; norm_num

end Cert.Yolo
-- ==== Proof.KernelIn.lean ====
/- The kernel body's first values, read at an index: the boxes' coordinates, their overlaps with the anchors, their
   anchors, their cells, and the comparisons of two boxes. -/
module

public import proofs.«01_k».proof.Proof.Bits
public import proofs.«01_k».proof.Proof.Gen.KernelIdeal.Frame
public import Idealize.ShloMosaic.Lib.Pipeline.Value
public import Idealize.ShloMosaic.PureOps.IdealRules

@[expose] public section

set_option maxRecDepth 16384

noncomputable section

namespace Cert.KernelIdeal.Val

open Idealize.ShloMosaic Idealize.ShloMosaic.Pointwise Cert.KernelIdeal Cert.KernelIdeal.Gen Cert.Yolo
open scoped Classical

/-- What the loss reads, from the blocks the kernel body loads. -/
def sceneOf (x0 x1 x2 : Vec Ideal S16x5x76x76 .f32) (x3 : Vec Ideal S300x5 .f32) : Scene where
  z b a c j i := (![x0, x1, x2] : Fin 3 → Vec Ideal S16x5x76x76 .f32) a (ix4 b c j i)
  x g := x3 (ix2 g 1)
  y g := x3 (ix2 g 2)
  w g := x3 (ix2 g 3)
  h g := x3 (ix2 g 4)

variable (x0 x1 x2 : Vec Ideal S16x5x76x76 .f32) (x3 : Vec Ideal S300x5 .f32) (x4 : Vec Ideal S5x300 .f32)

theorem hz : (![0, 0] : Fin 2 → Nat) = fun _ => 0 := by funext a; fin_cases a <;> rfl

theorem ld3 : View.ld x3 r0_0 = x3 := by unfold r0_0; exact View.ld_unit_zero (S := S300x5) hz _ x3
theorem ld4 : View.ld x4 r0_1 = x4 := by unfold r0_1; exact View.ld_unit_zero (S := S5x300) hz _ x4

theorem area0 : Named.named (F := Ideal) (φ := .f32) κ "area0" 0x3B656042#32 = anchorW 0 * anchorH 0 :=
  (IdealRules.named_const.ideal_named_scalar _ _ _ _ rfl).trans area0_eq.symm
theorem area1 : Named.named (F := Ideal) (φ := .f32) κ "area1" 0x3C9374BD#32 = anchorW 1 * anchorH 1 :=
  (IdealRules.named_const.ideal_named_scalar _ _ _ _ rfl).trans area1_eq.symm
theorem area2 : Named.named (F := Ideal) (φ := .f32) κ "area2" 0x3DD70A3E#32 = anchorW 2 * anchorH 2 :=
  (IdealRules.named_const.ideal_named_scalar _ _ _ _ rfl).trans area2_eq.symm

theorem colX (g : Fin 300) : k0_pay92 x0 x1 x2 x3 x4 (ix2 g 0) = (sceneOf x0 x1 x2 x3).x g := by
  unfold k0_pay92; rw [ld3]; pointwise [k0_pay3]; rfl
theorem colY (g : Fin 300) : k0_pay93 x0 x1 x2 x3 x4 (ix2 g 0) = (sceneOf x0 x1 x2 x3).y g := by
  unfold k0_pay93; rw [ld3]; pointwise [k0_pay4]; rfl
theorem colW (g : Fin 300) : k0_pay94 x0 x1 x2 x3 x4 (ix2 g 0) = (sceneOf x0 x1 x2 x3).w g := by
  unfold k0_pay94; rw [ld3]; pointwise [k0_pay5]; rfl
theorem colH (g : Fin 300) : k0_pay95 x0 x1 x2 x3 x4 (ix2 g 0) = (sceneOf x0 x1 x2 x3).h g := by
  unfold k0_pay95; rw [ld3]; pointwise [k0_pay6]; rfl

theorem ov0 (g : Fin 300) : k0_pay98 x0 x1 x2 x3 x4 (ix2 g 0) = (sceneOf x0 x1 x2 x3).ov 0 g := by
  unfold k0_pay98; rw [ld3]; pointwise [k0_pay11, k0_pay5, k0_pay6]; rw [area0]; rfl
theorem ov1 (g : Fin 300) : k0_pay99 x0 x1 x2 x3 x4 (ix2 g 0) = (sceneOf x0 x1 x2 x3).ov 1 g := by
  unfold k0_pay99; rw [ld3]; pointwise [k0_pay12, k0_pay5, k0_pay6]; rw [area1]; rfl
theorem ov2 (g : Fin 300) : k0_pay102 x0 x1 x2 x3 x4 (ix2 g 0) = (sceneOf x0 x1 x2 x3).ov 2 g := by
  unfold k0_pay102 k0_pay100 k0_pay101; rw [ld3]; pointwise [k0_pay13, k0_pay14, k0_pay15, k0_pay5, k0_pay6]; rw [area2]; rfl

section rows
variable (hT : ∀ (g : Fin 300) (k : Fin 5), x4 (ix2 k g) = x3 (ix2 g k))
include hT

theorem ovr0 (g : Fin 300) : k0_pay103 x0 x1 x2 x3 x4 (ix2 0 g) = (sceneOf x0 x1 x2 x3).ov 0 g := by
  unfold k0_pay103 k0_pay96 k0_pay97; rw [ld4]; pointwise [k0_pay16, k0_pay7, k0_pay8, k0_pay2]; rw [area0]
  simp only [hT]; rfl
theorem ovr1 (g : Fin 300) : k0_pay104 x0 x1 x2 x3 x4 (ix2 0 g) = (sceneOf x0 x1 x2 x3).ov 1 g := by
  unfold k0_pay104 k0_pay96 k0_pay97; rw [ld4]; pointwise [k0_pay17, k0_pay7, k0_pay8, k0_pay2]; rw [area1]
  simp only [hT]; rfl
theorem ovr2 (g : Fin 300) : k0_pay105 x0 x1 x2 x3 x4 (ix2 0 g) = (sceneOf x0 x1 x2 x3).ov 2 g := by
  unfold k0_pay105 k0_pay96 k0_pay97; rw [ld4]; pointwise [k0_pay18, k0_pay7, k0_pay8, k0_pay2]; rw [area2]
  simp only [hT]; rfl
end rows

/-- The anchor of a box as the kernel's word. -/
theorem best_word (i0 i1 i2 : EReal) :
    (if max i0 i1 < i2 then 2#32 else if i0 < i1 then 1#32 else 0#32)
      = BitVec.ofNat 32 ((if max i0 i1 < i2 then 2 else if i0 < i1 then 1 else 0 : Fin 3) : ℕ) := by
  by_cases h2 : max i0 i1 < i2 <;> by_cases h1 : i0 < i1 <;> simp only [h1, h2, if_true, if_false] <;> rfl

theorem anchor_col (g : Fin 300) : k0_pay106 x0 x1 x2 x3 x4 (ix2 g 0) = BitVec.ofNat 32 ((sceneOf x0 x1 x2 x3).anchor g : ℕ) := by
  have h2 : k0_pay15 (k0_pay100 x0 x1 x2 x3 x4) (k0_pay101 x0 x1 x2 x3 x4) (ix2 g 0) = (sceneOf x0 x1 x2 x3).ov 2 g := ov2 x0 x1 x2 x3 x4 g
  unfold k0_pay106
  pointwise [k0_pay21, k0_pay19, k0_pay20]
  simp only [ov0, ov1, h2]
  exact best_word _ _ _

theorem anchor_row (hT : ∀ (g : Fin 300) (k : Fin 5), x4 (ix2 k g) = x3 (ix2 g k)) (g : Fin 300) :
    k0_pay107 x0 x1 x2 x3 x4 (ix2 0 g) = BitVec.ofNat 32 ((sceneOf x0 x1 x2 x3).anchor g : ℕ) := by
  unfold k0_pay107
  pointwise [k0_pay22]
  simp only [ovr0 x0 x1 x2 x3 x4 hT, ovr1 x0 x1 x2 x3 x4 hT, ovr2 x0 x1 x2 x3 x4 hT]
  exact best_word _ _ _

theorem anchor_ne (a b : Fin 3) : BitVec.ofNat 32 (a : ℕ) = BitVec.ofNat 32 (b : ℕ) ↔ a = b := by
  revert a b; decide

theorem word_toInt (g : Fin 300) : (BitVec.ofNat 32 (g : ℕ)).toInt = ((g : ℕ) : ℤ) := by
  have := g.isLt
  rw [BitVec.toInt_eq_toNat_of_lt, BitVec.toNat_ofNat, Nat.mod_eq_of_lt (by omega)]
  rw [BitVec.toNat_ofNat, Nat.mod_eq_of_lt (by omega)]; omega

theorem word_inj (i j : Fin 76) : BitVec.ofNat 32 (i : ℕ) = BitVec.ofNat 32 (j : ℕ) ↔ i = j := by
  have := i.isLt; have := j.isLt
  rw [← BitVec.toNat_inj, BitVec.toNat_ofNat, BitVec.toNat_ofNat, Nat.mod_eq_of_lt (by omega), Nat.mod_eq_of_lt (by omega), Fin.ext_iff]

theorem cell_word (i j i' j' : Fin 76) :
    IntOp.addi (IntOp.muli (BitVec.ofNat 32 (j : ℕ)) 76#32) (BitVec.ofNat 32 (i : ℕ))
      = IntOp.addi (IntOp.muli (BitVec.ofNat 32 (j' : ℕ)) 76#32) (BitVec.ofNat 32 (i' : ℕ)) ↔ j = j' ∧ i = i' := by
  have := i.isLt; have := j.isLt; have := i'.isLt; have := j'.isLt
  show BitVec.ofNat 32 (j : ℕ) * 76#32 + BitVec.ofNat 32 (i : ℕ) = BitVec.ofNat 32 (j' : ℕ) * 76#32 + BitVec.ofNat 32 (i' : ℕ) ↔ _
  rw [← BitVec.toNat_inj]
  simp only [BitVec.toNat_add, BitVec.toNat_mul, BitVec.toNat_ofNat, Fin.ext_iff]
  rw [Nat.mod_eq_of_lt (by omega : (i : ℕ) < 2 ^ 32), Nat.mod_eq_of_lt (by omega : (j : ℕ) < 2 ^ 32),
    Nat.mod_eq_of_lt (by omega : (i' : ℕ) < 2 ^ 32), Nat.mod_eq_of_lt (by omega : (j' : ℕ) < 2 ^ 32),
    Nat.mod_eq_of_lt (by omega : (76 : ℕ) < 2 ^ 32), Nat.mod_eq_of_lt (by omega : (j : ℕ) * 76 < 2 ^ 32),
    Nat.mod_eq_of_lt (by omega : (j' : ℕ) * 76 < 2 ^ 32), Nat.mod_eq_of_lt (by omega : (j : ℕ) * 76 + i < 2 ^ 32),
    Nat.mod_eq_of_lt (by omega : (j' : ℕ) * 76 + i' < 2 ^ 32)]
  omega

theorem word_lt (g h : Fin 300) : IntOp.cmpi .slt (BitVec.ofNat 32 (g : ℕ)) (BitVec.ofNat 32 (h : ℕ)) = 1#1 ↔ g < h := by
  show BitVec.ofBool (BitVec.slt _ _) = 1#1 ↔ _
  rw [ofBool_one, BitVec.slt_iff_toInt_lt, word_toInt, word_toInt, Fin.lt_def]
  exact Int.ofNat_lt

theorem offX (g : Fin 300) : k0_pay113 x0 x1 x2 x3 x4 (ix2 g 0) = frac ((sceneOf x0 x1 x2 x3).x g) := by
  unfold k0_pay113
  pointwise [k0_pay32, k0_pay30]
  simp only [colX]; rfl
theorem offY (g : Fin 300) : k0_pay114 x0 x1 x2 x3 x4 (ix2 g 0) = frac ((sceneOf x0 x1 x2 x3).y g) := by
  unfold k0_pay114
  pointwise [k0_pay33, k0_pay31]
  simp only [colY]; rfl

section cells
variable (hT : ∀ (g : Fin 300) (k : Fin 5), x4 (ix2 k g) = x3 (ix2 g k))
variable (hx : ∀ g, cellWord ((sceneOf x0 x1 x2 x3).x g) = BitVec.ofNat 32 ((sceneOf x0 x1 x2 x3).ci g : ℕ))
variable (hy : ∀ g, cellWord ((sceneOf x0 x1 x2 x3).y g) = BitVec.ofNat 32 ((sceneOf x0 x1 x2 x3).cj g : ℕ))
include hT hx hy

theorem same_bit (g h : Fin 300) : k0_pay108 x0 x1 x2 x3 x4 (ix2 g h) = 1#1 ↔ (sceneOf x0 x1 x2 x3).same g h := by
  unfold k0_pay108; rw [ld4]
  pointwise [k0_pay25, k0_pay24, k0_pay23, k0_pay9, k0_pay10, k0_pay2]
  simp only [hT, colX, colY]
  rw [cmpi_eq_one]
  refine Iff.trans ?_ (cell_word _ _ _ _)
  rw [← hx, ← hx, ← hy, ← hy]; rfl
end cells

theorem later_bit (g h : Fin 300) : k0_pay109 x0 x1 x2 x3 x4 (ix2 g h) = 1#1 ↔ g < h := by
  unfold k0_pay109
  pointwise [k0_pay26]
  exact word_lt g h
theorem earlier_bit (g h : Fin 300) : k0_pay110 x0 x1 x2 x3 x4 (ix2 g h) = 1#1 ↔ h < g := by
  unfold k0_pay110
  pointwise [k0_pay27]
  exact word_lt h g
theorem rowhot (hy : ∀ g, cellWord ((sceneOf x0 x1 x2 x3).y g) = BitVec.ofNat 32 ((sceneOf x0 x1 x2 x3).cj g : ℕ))
    (g : Fin 300) (j : Fin 76) : k0_pay111 x0 x1 x2 x3 x4 (ix2 g j) = ind (j = (sceneOf x0 x1 x2 x3).cj g) := by
  unfold k0_pay111
  pointwise [k0_pay28, k0_pay24]
  rw [colY, float_bit, cmpi_eq_one]
  exact congrArg ind (propext ((by rw [← hy]; rfl : _ ↔ _).trans (word_inj _ _)))
theorem colhot (hx : ∀ g, cellWord ((sceneOf x0 x1 x2 x3).x g) = BitVec.ofNat 32 ((sceneOf x0 x1 x2 x3).ci g : ℕ))
    (g : Fin 300) (i : Fin 76) : k0_pay112 x0 x1 x2 x3 x4 (ix2 g i) = ind (i = (sceneOf x0 x1 x2 x3).ci g) := by
  unfold k0_pay112
  pointwise [k0_pay29, k0_pay23]
  rw [colX, float_bit, cmpi_eq_one]
  exact congrArg ind (propext ((by rw [← hx]; rfl : _ ↔ _).trans (word_inj _ _)))
end Cert.KernelIdeal.Val
-- ==== Proof.KernelSums.lean ====
/- The kernel body's sums: what it gathers for each box, which boxes it counts, and the sums over boxes and over cells. -/
module

public import proofs.«01_k».proof.Proof.KernelIn

@[expose] public section

set_option maxRecDepth 16384

noncomputable section

namespace Cert.KernelIdeal.Val

open Idealize.ShloMosaic Idealize.ShloMosaic.Pointwise Cert.KernelIdeal Cert.KernelIdeal.Gen Cert.Yolo
open scoped Classical

variable (x0 x1 x2 : Vec Ideal S16x5x76x76 .f32) (x3 : Vec Ideal S300x5 .f32) (x4 : Vec Ideal S5x300 .f32)

/-! ## Gathers -/

/-- A sum over rows and columns weighted by two indicators is the one entry they point at. -/
theorem gather (r c : Fin 76 → EReal) (p : Fin 76 → Fin 76 → EReal) (J I : Fin 76)
    (hr : ∀ j, r j = ind (j = J)) (hc : ∀ i, c i = ind (i = I)) :
    ∑ x, c x * ∑ x_1, r x_1 * p x_1 x = p J I := by
  rw [Finset.sum_eq_single I]
  · rw [hc, ind_true rfl, one_mul, Finset.sum_eq_single J]
    · rw [hr, ind_true rfl, one_mul]
    · intro j _ hj; rw [hr, ind_false hj, zero_mul]
    · intro h; exact absurd (Finset.mem_univ _) h
  · intro i _ hi; rw [hc, ind_false hi, zero_mul]
  · intro h; exact absurd (Finset.mem_univ _) h

section cells
variable (hx : ∀ g, cellWord ((sceneOf x0 x1 x2 x3).x g) = BitVec.ofNat 32 ((sceneOf x0 x1 x2 x3).ci g : ℕ))
variable (hy : ∀ g, cellWord ((sceneOf x0 x1 x2 x3).y g) = BitVec.ofNat 32 ((sceneOf x0 x1 x2 x3).cj g : ℕ))
include hx hy

theorem at00 (g : Fin 300) :
    k0_pay35 (k0_pay111 x0 x1 x2 x3 x4) (k0_pay112 x0 x1 x2 x3 x4) (View.ld x0 r0_3) (ix2 g 0)
      = (sceneOf x0 x1 x2 x3).at_ 0 0 g := by
  pointwise [k0_pay35]
  exact gather _ _ (fun j i => x0 (ix4 0 0 j i)) _ _ (rowhot x0 x1 x2 x3 x4 hy g) (colhot x0 x1 x2 x3 x4 hx g)

theorem at01 (g : Fin 300) :
    k0_pay36 (k0_pay111 x0 x1 x2 x3 x4) (k0_pay112 x0 x1 x2 x3 x4) (View.ld x0 r0_4) (ix2 g 0)
      = (sceneOf x0 x1 x2 x3).at_ 0 1 g := by
  pointwise [k0_pay36]
  exact gather _ _ (fun j i => x0 (ix4 0 1 j i)) _ _ (rowhot x0 x1 x2 x3 x4 hy g) (colhot x0 x1 x2 x3 x4 hx g)

theorem at02 (g : Fin 300) :
    k0_pay37 (k0_pay111 x0 x1 x2 x3 x4) (k0_pay112 x0 x1 x2 x3 x4) (View.ld x0 r0_5) (ix2 g 0)
      = (sceneOf x0 x1 x2 x3).at_ 0 2 g := by
  pointwise [k0_pay37]
  exact gather _ _ (fun j i => x0 (ix4 0 2 j i)) _ _ (rowhot x0 x1 x2 x3 x4 hy g) (colhot x0 x1 x2 x3 x4 hx g)

theorem at03 (g : Fin 300) :
    k0_pay38 (k0_pay111 x0 x1 x2 x3 x4) (k0_pay112 x0 x1 x2 x3 x4) (View.ld x0 r0_6) (ix2 g 0)
      = (sceneOf x0 x1 x2 x3).at_ 0 3 g := by
  pointwise [k0_pay38]
  exact gather _ _ (fun j i => x0 (ix4 0 3 j i)) _ _ (rowhot x0 x1 x2 x3 x4 hy g) (colhot x0 x1 x2 x3 x4 hx g)

theorem at10 (g : Fin 300) :
    k0_pay53 (k0_pay111 x0 x1 x2 x3 x4) (k0_pay112 x0 x1 x2 x3 x4) (View.ld x1 r0_3) (ix2 g 0)
      = (sceneOf x0 x1 x2 x3).at_ 1 0 g := by
  pointwise [k0_pay53]
  exact gather _ _ (fun j i => x1 (ix4 0 0 j i)) _ _ (rowhot x0 x1 x2 x3 x4 hy g) (colhot x0 x1 x2 x3 x4 hx g)

theorem at11 (g : Fin 300) :
    k0_pay54 (k0_pay111 x0 x1 x2 x3 x4) (k0_pay112 x0 x1 x2 x3 x4) (View.ld x1 r0_4) (ix2 g 0)
      = (sceneOf x0 x1 x2 x3).at_ 1 1 g := by
  pointwise [k0_pay54]
  exact gather _ _ (fun j i => x1 (ix4 0 1 j i)) _ _ (rowhot x0 x1 x2 x3 x4 hy g) (colhot x0 x1 x2 x3 x4 hx g)

theorem at12 (g : Fin 300) :
    k0_pay55 (k0_pay111 x0 x1 x2 x3 x4) (k0_pay112 x0 x1 x2 x3 x4) (View.ld x1 r0_5) (ix2 g 0)
      = (sceneOf x0 x1 x2 x3).at_ 1 2 g := by
  pointwise [k0_pay55]
  exact gather _ _ (fun j i => x1 (ix4 0 2 j i)) _ _ (rowhot x0 x1 x2 x3 x4 hy g) (colhot x0 x1 x2 x3 x4 hx g)

theorem at13 (g : Fin 300) :
    k0_pay56 (k0_pay111 x0 x1 x2 x3 x4) (k0_pay112 x0 x1 x2 x3 x4) (View.ld x1 r0_6) (ix2 g 0)
      = (sceneOf x0 x1 x2 x3).at_ 1 3 g := by
  pointwise [k0_pay56]
  exact gather _ _ (fun j i => x1 (ix4 0 3 j i)) _ _ (rowhot x0 x1 x2 x3 x4 hy g) (colhot x0 x1 x2 x3 x4 hx g)

theorem at20 (g : Fin 300) :
    k0_pay73 (k0_pay111 x0 x1 x2 x3 x4) (k0_pay112 x0 x1 x2 x3 x4) (View.ld x2 r0_3) (ix2 g 0)
      = (sceneOf x0 x1 x2 x3).at_ 2 0 g := by
  pointwise [k0_pay73]
  exact gather _ _ (fun j i => x2 (ix4 0 0 j i)) _ _ (rowhot x0 x1 x2 x3 x4 hy g) (colhot x0 x1 x2 x3 x4 hx g)

theorem at21 (g : Fin 300) :
    k0_pay74 (k0_pay111 x0 x1 x2 x3 x4) (k0_pay112 x0 x1 x2 x3 x4) (View.ld x2 r0_4) (ix2 g 0)
      = (sceneOf x0 x1 x2 x3).at_ 2 1 g := by
  pointwise [k0_pay74]
  exact gather _ _ (fun j i => x2 (ix4 0 1 j i)) _ _ (rowhot x0 x1 x2 x3 x4 hy g) (colhot x0 x1 x2 x3 x4 hx g)

theorem at22 (g : Fin 300) :
    k0_pay75 (k0_pay111 x0 x1 x2 x3 x4) (k0_pay112 x0 x1 x2 x3 x4) (View.ld x2 r0_5) (ix2 g 0)
      = (sceneOf x0 x1 x2 x3).at_ 2 2 g := by
  pointwise [k0_pay75]
  exact gather _ _ (fun j i => x2 (ix4 0 2 j i)) _ _ (rowhot x0 x1 x2 x3 x4 hy g) (colhot x0 x1 x2 x3 x4 hx g)

theorem at23 (g : Fin 300) :
    k0_pay76 (k0_pay111 x0 x1 x2 x3 x4) (k0_pay112 x0 x1 x2 x3 x4) (View.ld x2 r0_6) (ix2 g 0)
      = (sceneOf x0 x1 x2 x3).at_ 2 3 g := by
  pointwise [k0_pay76]
  exact gather _ _ (fun j i => x2 (ix4 0 3 j i)) _ _ (rowhot x0 x1 x2 x3 x4 hy g) (colhot x0 x1 x2 x3 x4 hx g)

theorem at04 (g : Fin 300) : k0_pay115 x0 x1 x2 x3 x4 (ix2 g 0) = (sceneOf x0 x1 x2 x3).at_ 0 4 g := by
  unfold k0_pay115
  pointwise [k0_pay39]
  exact gather _ _ (fun j i => x0 (ix4 0 4 j i)) _ _ (rowhot x0 x1 x2 x3 x4 hy g) (colhot x0 x1 x2 x3 x4 hx g)

theorem at14 (g : Fin 300) : k0_pay119 x0 x1 x2 x3 x4 (ix2 g 0) = (sceneOf x0 x1 x2 x3).at_ 1 4 g := by
  unfold k0_pay119
  pointwise [k0_pay57]
  exact gather _ _ (fun j i => x1 (ix4 0 4 j i)) _ _ (rowhot x0 x1 x2 x3 x4 hy g) (colhot x0 x1 x2 x3 x4 hx g)

theorem at24 (g : Fin 300) : k0_pay124 x0 x1 x2 x3 x4 (ix2 g 0) = (sceneOf x0 x1 x2 x3).at_ 2 4 g := by
  unfold k0_pay124 k0_pay123
  pointwise [k0_pay78, k0_pay77]
  exact gather _ _ (fun j i => x2 (ix4 0 4 j i)) _ _ (rowhot x0 x1 x2 x3 x4 hy g) (colhot x0 x1 x2 x3 x4 hx g)

end cells

/-! ## Which boxes are counted -/

/-- The word of a counted box: its own condition holds and no other box in the row has the three given bits. -/
theorem counted (c : BitVec 1) (f : Fin 300 → BitVec 1) :
    FloatOps.sitofp (F := Ideal) FTy.f32 (BitVec.setWidth 32 (IntOp.andi c (IntOp.xori (BitVec.ofBool (decide
        (0 < Finset.fold max (Ideal.ofBits FTy.f32 4286578688#32) (fun x => Scalar.select (f x) (1 : EReal) 0) Finset.univ))) 1#1)))
      = ind (c = 1#1 ∧ ¬ ∃ h, f h = 1#1) := by
  rw [float_bit, andi_one, xori_one, ofBool_decide, fold_max_pos]

section cells
variable (hT : ∀ (g : Fin 300) (k : Fin 5), x4 (ix2 k g) = x3 (ix2 g k))
variable (hx : ∀ g, cellWord ((sceneOf x0 x1 x2 x3).x g) = BitVec.ofNat 32 ((sceneOf x0 x1 x2 x3).ci g : ℕ))
variable (hy : ∀ g, cellWord ((sceneOf x0 x1 x2 x3).y g) = BitVec.ofNat 32 ((sceneOf x0 x1 x2 x3).cj g : ℕ))
include hT hx hy

theorem win_eq (a : Fin 3) (g : Fin 300) :
    ind (k0_pay106 x0 x1 x2 x3 x4 (ix2 g 0) = BitVec.ofNat 32 (a : ℕ) ∧ ¬ ∃ h,
        IntOp.andi (IntOp.andi (k0_pay108 x0 x1 x2 x3 x4 (ix2 g h))
            (IntOp.cmpi .eq (k0_pay106 x0 x1 x2 x3 x4 (ix2 g 0)) (k0_pay107 x0 x1 x2 x3 x4 (ix2 0 h))))
          (k0_pay109 x0 x1 x2 x3 x4 (ix2 g h)) = 1#1)
      = (sceneOf x0 x1 x2 x3).win a g := by
  unfold Scene.win Scene.last
  simp only [andi_one, cmpi_eq_one, anchor_col, anchor_row x0 x1 x2 x3 x4 hT, anchor_ne,
    same_bit x0 x1 x2 x3 x4 hT hx hy, later_bit]
  congr 1
  refine propext (and_congr_right fun _ => not_congr (exists_congr fun h => ?_))
  tauto

theorem win0 (g : Fin 300) :
    k0_pay41 (F := Ideal) (k0_pay106 x0 x1 x2 x3 x4) (k0_pay107 x0 x1 x2 x3 x4) (k0_pay108 x0 x1 x2 x3 x4) (k0_pay109 x0 x1 x2 x3 x4) (ix2 g 0)
      = (sceneOf x0 x1 x2 x3).win 0 g := by
  pointwise [k0_pay41, k0_pay40]
  rw [counted, cmpi_eq_one]
  exact win_eq x0 x1 x2 x3 x4 hT hx hy 0 g

theorem win1 (g : Fin 300) :
    k0_pay59 (F := Ideal) (k0_pay106 x0 x1 x2 x3 x4) (k0_pay107 x0 x1 x2 x3 x4) (k0_pay108 x0 x1 x2 x3 x4) (k0_pay109 x0 x1 x2 x3 x4) (ix2 g 0)
      = (sceneOf x0 x1 x2 x3).win 1 g := by
  pointwise [k0_pay59, k0_pay58]
  rw [counted, cmpi_eq_one]
  exact win_eq x0 x1 x2 x3 x4 hT hx hy 1 g

theorem win2 (g : Fin 300) :
    k0_pay80 (F := Ideal) (k0_pay106 x0 x1 x2 x3 x4) (k0_pay107 x0 x1 x2 x3 x4) (k0_pay108 x0 x1 x2 x3 x4) (k0_pay109 x0 x1 x2 x3 x4) (ix2 g 0)
      = (sceneOf x0 x1 x2 x3).win 2 g := by
  pointwise [k0_pay80, k0_pay79]
  rw [counted, cmpi_eq_one]
  exact win_eq x0 x1 x2 x3 x4 hT hx hy 2 g

theorem first_eq (a : Fin 3) (g : Fin 300) (act : Fin 300 → BitVec 1)
    (hact : ∀ h, act h = 1#1 ↔ (sceneOf x0 x1 x2 x3).act a h) :
    ind (act g = 1#1 ∧ ¬ ∃ h,
        IntOp.andi (IntOp.andi (k0_pay108 x0 x1 x2 x3 x4 (ix2 g h)) (act h)) (k0_pay110 x0 x1 x2 x3 x4 (ix2 g h)) = 1#1)
      = ind ((sceneOf x0 x1 x2 x3).first a g) := by
  unfold Scene.first
  simp only [andi_one, hact, same_bit x0 x1 x2 x3 x4 hT hx hy, earlier_bit]
  congr 1
  refine propext (and_congr_right fun _ => not_congr (exists_congr fun h => ?_))
  tauto

theorem act_word (a : Fin 3) (g : Fin 300) :
    IntOp.ori (BitVec.ofBool (decide (Ideal.ofBits FTy.f32 0x3F000000#32 < (sceneOf x0 x1 x2 x3).ov a g)))
        (IntOp.cmpi .eq (BitVec.ofNat 32 ((sceneOf x0 x1 x2 x3).anchor g : ℕ)) (BitVec.ofNat 32 (a : ℕ))) = 1#1 ↔ (sceneOf x0 x1 x2 x3).act a g := by
  rw [ori_one, ofBool_decide, cmpi_eq_one, anchor_ne]; rfl

theorem first0 (g : Fin 300) :
    k0_pay48 (F := Ideal) (k0_pay108 x0 x1 x2 x3 x4) (k0_pay110 x0 x1 x2 x3 x4) (k0_pay116 x0 x1 x2 x3 x4) (k0_pay117 x0 x1 x2 x3 x4) (k0_pay118 x0 x1 x2 x3 x4) (ix2 g 0)
      = ind ((sceneOf x0 x1 x2 x3).first 0 g) := by
  unfold k0_pay116 k0_pay117 k0_pay118
  pointwise [k0_pay48, k0_pay45, k0_pay46, k0_pay47, k0_pay40]
  rw [counted]
  simp only [ov0, ovr0 x0 x1 x2 x3 x4 hT, anchor_col, anchor_row x0 x1 x2 x3 x4 hT]
  exact first_eq x0 x1 x2 x3 x4 hT hx hy 0 g _ (act_word x0 x1 x2 x3 x4 hT hx hy 0)
theorem first1 (g : Fin 300) :
    k0_pay68 (F := Ideal) (k0_pay121 x0 x1 x2 x3 x4) (k0_pay122 x0 x1 x2 x3 x4) (k0_pay120 x0 x1 x2 x3 x4) (ix2 g 0)
      = ind ((sceneOf x0 x1 x2 x3).first 1 g) := by
  unfold k0_pay120 k0_pay121 k0_pay122
  pointwise [k0_pay68, k0_pay66, k0_pay67, k0_pay58]
  rw [counted]
  simp only [ov1, ovr1 x0 x1 x2 x3 x4 hT, anchor_col, anchor_row x0 x1 x2 x3 x4 hT]
  exact first_eq x0 x1 x2 x3 x4 hT hx hy 1 g _ (act_word x0 x1 x2 x3 x4 hT hx hy 1)
theorem first2 (g : Fin 300) :
    k0_pay87 (F := Ideal) (k0_pay102 x0 x1 x2 x3 x4) (k0_pay105 x0 x1 x2 x3 x4) (k0_pay107 x0 x1 x2 x3 x4) (k0_pay108 x0 x1 x2 x3 x4) (k0_pay110 x0 x1 x2 x3 x4) (k0_pay125 x0 x1 x2 x3 x4) (ix2 g 0)
      = ind ((sceneOf x0 x1 x2 x3).first 2 g) := by
  unfold k0_pay125
  pointwise [k0_pay87, k0_pay79]
  rw [counted]
  simp only [ov2, ovr2 x0 x1 x2 x3 x4 hT, anchor_col, anchor_row x0 x1 x2 x3 x4 hT]
  exact first_eq x0 x1 x2 x3 x4 hT hx hy 2 g _ (act_word x0 x1 x2 x3 x4 hT hx hy 2)

/-! ## Sums over the boxes -/

theorem count_win :
    k0_pay81 (k0_pay106 x0 x1 x2 x3 x4) (k0_pay107 x0 x1 x2 x3 x4) (k0_pay108 x0 x1 x2 x3 x4) (k0_pay109 x0 x1 x2 x3 x4)
        (k0_pay60 (k0_pay106 x0 x1 x2 x3 x4) (k0_pay107 x0 x1 x2 x3 x4) (k0_pay108 x0 x1 x2 x3 x4) (k0_pay109 x0 x1 x2 x3 x4)
          (k0_pay43 (k0_pay42 (F := Ideal) (k0_pay106 x0 x1 x2 x3 x4) (k0_pay107 x0 x1 x2 x3 x4) (k0_pay108 x0 x1 x2 x3 x4) (k0_pay109 x0 x1 x2 x3 x4))))
      = ∑ a, ∑ g, (sceneOf x0 x1 x2 x3).win a g := by
  pointwise [k0_pay81, k0_pay60, k0_pay43, k0_pay42]
  simp only [win0 x0 x1 x2 x3 x4 hT hx hy, win1 x0 x1 x2 x3 x4 hT hx hy, win2 x0 x1 x2 x3 x4 hT hx hy, Fin.sum_univ_three, Finset.univ_unique, Finset.sum_singleton]

theorem count_first :
    k0_pay88 (k0_pay102 x0 x1 x2 x3 x4) (k0_pay105 x0 x1 x2 x3 x4) (k0_pay107 x0 x1 x2 x3 x4) (k0_pay108 x0 x1 x2 x3 x4) (k0_pay110 x0 x1 x2 x3 x4)
        (k0_pay69 (k0_pay49 (F := Ideal) (k0_pay108 x0 x1 x2 x3 x4) (k0_pay110 x0 x1 x2 x3 x4) (k0_pay116 x0 x1 x2 x3 x4) (k0_pay117 x0 x1 x2 x3 x4) (k0_pay118 x0 x1 x2 x3 x4))
          (k0_pay121 x0 x1 x2 x3 x4) (k0_pay122 x0 x1 x2 x3 x4) (k0_pay120 x0 x1 x2 x3 x4)) (k0_pay125 x0 x1 x2 x3 x4)
      = ∑ a, ∑ g, ind ((sceneOf x0 x1 x2 x3).first a g) := by
  pointwise [k0_pay88, k0_pay69, k0_pay49]
  simp only [first0 x0 x1 x2 x3 x4 hT hx hy, first1 x0 x1 x2 x3 x4 hT hx hy, first2 x0 x1 x2 x3 x4 hT hx hy, Fin.sum_univ_three, Finset.univ_unique, Finset.sum_singleton]

theorem obj0 :
    k0_pay44 (k0_pay94 x0 x1 x2 x3 x4) (k0_pay95 x0 x1 x2 x3 x4) (k0_pay113 x0 x1 x2 x3 x4) (k0_pay114 x0 x1 x2 x3 x4)
        (k0_pay35 (k0_pay111 x0 x1 x2 x3 x4) (k0_pay112 x0 x1 x2 x3 x4) (View.ld x0 r0_3)) (k0_pay36 (k0_pay111 x0 x1 x2 x3 x4) (k0_pay112 x0 x1 x2 x3 x4) (View.ld x0 r0_4))
        (k0_pay37 (k0_pay111 x0 x1 x2 x3 x4) (k0_pay112 x0 x1 x2 x3 x4) (View.ld x0 r0_5)) (k0_pay38 (k0_pay111 x0 x1 x2 x3 x4) (k0_pay112 x0 x1 x2 x3 x4) (View.ld x0 r0_6))
        (k0_pay115 x0 x1 x2 x3 x4) (k0_pay41 (F := Ideal) (k0_pay106 x0 x1 x2 x3 x4) (k0_pay107 x0 x1 x2 x3 x4) (k0_pay108 x0 x1 x2 x3 x4) (k0_pay109 x0 x1 x2 x3 x4))
      = ∑ g, (sceneOf x0 x1 x2 x3).win 0 g * (sceneOf x0 x1 x2 x3).term 0 g := by
  pointwise [k0_pay44]
  simp only [win0 x0 x1 x2 x3 x4 hT hx hy, at00 x0 x1 x2 x3 x4 hx hy, at01 x0 x1 x2 x3 x4 hx hy, at02 x0 x1 x2 x3 x4 hx hy, at03 x0 x1 x2 x3 x4 hx hy, at04 x0 x1 x2 x3 x4 hx hy,
    colW, colH, offX, offY, Finset.univ_unique, Finset.sum_singleton, zero_sub]
  rfl

theorem obj1 (v : Ideal .f32) :
    k0_pay65 (k0_pay113 x0 x1 x2 x3 x4) (k0_pay114 x0 x1 x2 x3 x4) v
        (k0_pay55 (k0_pay111 x0 x1 x2 x3 x4) (k0_pay112 x0 x1 x2 x3 x4) (View.ld x1 r0_5)) (k0_pay56 (k0_pay111 x0 x1 x2 x3 x4) (k0_pay112 x0 x1 x2 x3 x4) (View.ld x1 r0_6))
        (k0_pay119 x0 x1 x2 x3 x4) (k0_pay59 (F := Ideal) (k0_pay106 x0 x1 x2 x3 x4) (k0_pay107 x0 x1 x2 x3 x4) (k0_pay108 x0 x1 x2 x3 x4) (k0_pay109 x0 x1 x2 x3 x4))
        (k0_pay61 (k0_pay53 (k0_pay111 x0 x1 x2 x3 x4) (k0_pay112 x0 x1 x2 x3 x4) (View.ld x1 r0_3)))
        (k0_pay62 (k0_pay54 (k0_pay111 x0 x1 x2 x3 x4) (k0_pay112 x0 x1 x2 x3 x4) (View.ld x1 r0_4))) (k0_pay63 (k0_pay94 x0 x1 x2 x3 x4)) (k0_pay64 (k0_pay95 x0 x1 x2 x3 x4))
      = v + ∑ g, (sceneOf x0 x1 x2 x3).win 1 g * (sceneOf x0 x1 x2 x3).term 1 g := by
  pointwise [k0_pay65, k0_pay61, k0_pay62, k0_pay63, k0_pay64]
  simp only [win1 x0 x1 x2 x3 x4 hT hx hy, at10 x0 x1 x2 x3 x4 hx hy, at11 x0 x1 x2 x3 x4 hx hy, at12 x0 x1 x2 x3 x4 hx hy, at13 x0 x1 x2 x3 x4 hx hy, at14 x0 x1 x2 x3 x4 hx hy,
    colW, colH, offX, offY, Finset.univ_unique, Finset.sum_singleton, zero_sub]
  rfl

theorem obj2 (v : Ideal .f32) :
    k0_pay86 v (k0_pay80 (F := Ideal) (k0_pay106 x0 x1 x2 x3 x4) (k0_pay107 x0 x1 x2 x3 x4) (k0_pay108 x0 x1 x2 x3 x4) (k0_pay109 x0 x1 x2 x3 x4))
        (k0_pay82 (k0_pay94 x0 x1 x2 x3 x4) (k0_pay95 x0 x1 x2 x3 x4) (k0_pay113 x0 x1 x2 x3 x4) (k0_pay114 x0 x1 x2 x3 x4)
          (k0_pay73 (k0_pay111 x0 x1 x2 x3 x4) (k0_pay112 x0 x1 x2 x3 x4) (View.ld x2 r0_3)) (k0_pay74 (k0_pay111 x0 x1 x2 x3 x4) (k0_pay112 x0 x1 x2 x3 x4) (View.ld x2 r0_4))
          (k0_pay75 (k0_pay111 x0 x1 x2 x3 x4) (k0_pay112 x0 x1 x2 x3 x4) (View.ld x2 r0_5)) (k0_pay76 (k0_pay111 x0 x1 x2 x3 x4) (k0_pay112 x0 x1 x2 x3 x4) (View.ld x2 r0_6)))
        (k0_pay83 (k0_pay123 x0 x1 x2 x3 x4)) (k0_pay84 (k0_pay123 x0 x1 x2 x3 x4)) (k0_pay85 (F := Ideal))
      = v + ∑ g, (sceneOf x0 x1 x2 x3).win 2 g * (sceneOf x0 x1 x2 x3).term 2 g := by
  have h4 : ∀ g, k0_pay78 (k0_pay123 x0 x1 x2 x3 x4) (ix2 g 0) = (sceneOf x0 x1 x2 x3).at_ 2 4 g := at24 x0 x1 x2 x3 x4 hx hy
  pointwise [k0_pay86, k0_pay82, k0_pay83, k0_pay84, k0_pay85]
  simp only [win2 x0 x1 x2 x3 x4 hT hx hy, at20 x0 x1 x2 x3 x4 hx hy, at21 x0 x1 x2 x3 x4 hx hy, at22 x0 x1 x2 x3 x4 hx hy, at23 x0 x1 x2 x3 x4 hx hy, h4,
    colW, colH, offX, offY, Finset.univ_unique, Finset.sum_singleton, zero_sub]
  rfl

theorem excl0 :
    k0_pay50 (k0_pay108 x0 x1 x2 x3 x4) (k0_pay110 x0 x1 x2 x3 x4) (k0_pay115 x0 x1 x2 x3 x4) (k0_pay116 x0 x1 x2 x3 x4) (k0_pay117 x0 x1 x2 x3 x4) (k0_pay118 x0 x1 x2 x3 x4)
      = ∑ g, ind ((sceneOf x0 x1 x2 x3).first 0 g) * -log1mP ((sceneOf x0 x1 x2 x3).at_ 0 4 g) := by
  pointwise [k0_pay50]
  simp only [first0 x0 x1 x2 x3 x4 hT hx hy, at04 x0 x1 x2 x3 x4 hx hy, Finset.univ_unique, Finset.sum_singleton, zero_sub]
  rfl
theorem excl1 (v : Ideal .f32) :
    k0_pay70 v (k0_pay119 x0 x1 x2 x3 x4) (k0_pay121 x0 x1 x2 x3 x4) (k0_pay122 x0 x1 x2 x3 x4) (k0_pay120 x0 x1 x2 x3 x4)
      = v + ∑ g, ind ((sceneOf x0 x1 x2 x3).first 1 g) * -log1mP ((sceneOf x0 x1 x2 x3).at_ 1 4 g) := by
  pointwise [k0_pay70]
  simp only [first1 x0 x1 x2 x3 x4 hT hx hy, at14 x0 x1 x2 x3 x4 hx hy, Finset.univ_unique, Finset.sum_singleton, zero_sub]
  rfl

/-- The last sums and the quotient. -/
theorem total (v447 v466 v519 v555 v582 : Ideal .f32) :
    k0_pay1 v447 v466 v519 v555
        (k0_pay87 (k0_pay102 x0 x1 x2 x3 x4) (k0_pay105 x0 x1 x2 x3 x4) (k0_pay107 x0 x1 x2 x3 x4) (k0_pay108 x0 x1 x2 x3 x4) (k0_pay110 x0 x1 x2 x3 x4) (k0_pay125 x0 x1 x2 x3 x4))
        v582 (k0_pay90 (k0_pay124 x0 x1 x2 x3 x4)) (k0_pay91 (k0_pay124 x0 x1 x2 x3 x4)) (Scalar.ofBits (F := Ideal) .f32 0x0DA24260#32) (ix2 0 0)
      = Ideal.div v555 (max v519 1) + Ideal.div (hundred * (v466 - (v447 + ∑ g, ind ((sceneOf x0 x1 x2 x3).first 2 g) * -log1mP ((sceneOf x0 x1 x2 x3).at_ 2 4 g))))
          (max (cells - v582) 1) := by
  pointwise [k0_pay1, k0_pay90, k0_pay91, k0_pay89]
  simp only [first2 x0 x1 x2 x3 x4 hT hx hy, at24 x0 x1 x2 x3 x4 hx hy, Finset.univ_unique, Finset.sum_singleton, zero_sub]
  rfl
end cells

/-! ## The sum over all cells -/

theorem sum_cells (v : FVec Ideal S16x76x76 .f32) :
    Ideal.reduceAdd reduces_S1x16x76x76_S1 (shapeCast S1x16x76x76 v shapeCasts_S16x76x76_S1x16x76x76) (ix1 0)
      = ∑ b : Fin 16, ∑ j : Fin 76, ∑ i : Fin 76, v (ix3 b j i) := by
  unfold Ideal.reduceAdd
  rw [Finset.filter_true_of_mem (fun i _ => funext fun k => by
    match k with
    | ⟨0, _⟩ => exact @Subsingleton.elim (Fin 1) _ _ _), sum_idx4]
  rw [Fin.sum_univ_one]
  refine Finset.sum_congr rfl fun b _ => Finset.sum_congr rfl fun j _ => Finset.sum_congr rfl fun i _ => ?_
  pointwise []

theorem all_cells :
    k0_pay72 (k0_pay52 (k0_pay34 (View.ld x0 r0_2)) (k0_pay51 (View.ld x1 r0_2)) (Scalar.ofBits (F := Ideal) .f32 0x3F800000#32))
        (k0_pay71 (View.ld x2 r0_2))
      = ∑ a, ∑ b, ∑ j, ∑ i, -log1mP ((sceneOf x0 x1 x2 x3).z b a 4 j i) := by
  pointwise [k0_pay72, k0_pay71, k0_pay52, k0_pay51, k0_pay34]
  rw [sum_cells, sum_cells, sum_cells, Fin.sum_univ_three]
  pointwise []
  simp only [zero_sub]
  rfl

/-- What the kernel body stores is the kernel's form of the loss. -/
theorem out_eq (hT : ∀ (g : Fin 300) (k : Fin 5), x4 (ix2 k g) = x3 (ix2 g k))
    (hx : ∀ g, cellWord ((sceneOf x0 x1 x2 x3).x g) = BitVec.ofNat 32 ((sceneOf x0 x1 x2 x3).ci g : ℕ))
    (hy : ∀ g, cellWord ((sceneOf x0 x1 x2 x3).y g) = BitVec.ofNat 32 ((sceneOf x0 x1 x2 x3).cj g : ℕ)) :
    out0_5 x0 x1 x2 x3 x4 (ix2 0 0) = (sceneOf x0 x1 x2 x3).kernelLoss := by
  unfold out0_5
  rw [View.canon_unit_zero (S := S1x1) hz, total x0 x1 x2 x3 x4 hT hx hy, all_cells x0 x1 x2 x3, count_win x0 x1 x2 x3 x4 hT hx hy, count_first x0 x1 x2 x3 x4 hT hx hy,
    obj2 x0 x1 x2 x3 x4 hT hx hy, obj1 x0 x1 x2 x3 x4 hT hx hy, obj0 x0 x1 x2 x3 x4 hT hx hy, excl1 x0 x1 x2 x3 x4 hT hx hy, excl0 x0 x1 x2 x3 x4 hT hx hy]
  unfold Scene.kernelLoss
  simp only [Fin.sum_univ_three (f := fun a => ∑ g, (sceneOf x0 x1 x2 x3).win a g * (sceneOf x0 x1 x2 x3).term a g),
    Fin.sum_univ_three (f := fun a => ∑ g, ind ((sceneOf x0 x1 x2 x3).first a g) * -log1mP ((sceneOf x0 x1 x2 x3).at_ a 4 g))]

end Cert.KernelIdeal.Val
-- ==== Proof.KernelRun.lean ====
/- The kernel's run read off its frame: the entries of the blocks the body is given, and the scalar the program leaves. -/
module

public import proofs.«01_k».proof.Proof.KernelSums

@[expose] public section

set_option maxRecDepth 16384

noncomputable section

namespace Cert.KernelIdeal.Val

open Idealize.ShloMosaic Idealize.ShloMosaic.Pointwise Idealize.ShloMosaic.Pipeline Idealize.ShloMosaic.StableHlo
open Idealize.SL Idealize.ShloMosaic.TcCoe Idealize.SL.Sem
open Cert.KernelIdeal Cert.KernelIdeal.Gen Cert.Yolo
open scoped Classical

variable (m : (ℓ : Loc nD τ sig) → Buf (Elt Ideal) ℓ) (ρ : Dev nD → PrngReg)

/-- The first 90 channels of the prediction, as the region finds them. -/
theorem V_v0 (c : Dev nD) : V m c main_v0 = (extractStridedSlice S16x90x76x76 ![0, 0, 0, 0]
    (m (c.tc.loc main_arg0) : Vec Ideal S16x255x76x76 .f32) slices_S16x255x76x76_S16x90x76x76_0_0_0_0 : Vec Ideal S16x90x76x76 .f32) := by
  show StableHlo.after (List.flatten [hostOps0]) (fun b => m (c, b)) (Proc.devRef .tc main_v0) = _
  simp only [List.flatten_cons, List.flatten_nil, List.append_nil]
  after_results_simp

theorem V_v1 (c : Dev nD) : V m c main_v1 = (extractStridedSlice S16x5x76x76 ![0, 170, 0, 0]
    (m (c.tc.loc main_arg0) : Vec Ideal S16x255x76x76 .f32) slices_S16x255x76x76_S16x5x76x76_0_170_0_0 : Vec Ideal S16x5x76x76 .f32) := by
  show StableHlo.after (List.flatten [hostOps0]) (fun b => m (c, b)) (Proc.devRef .tc main_v1) = _
  simp only [List.flatten_cons, List.flatten_nil, List.append_nil]
  after_results_simp

theorem V_v2 (c : Dev nD) : V m c main_v2 = (transpose S5x300 [1, 0]
    (m (c.tc.loc main_arg1) : Vec Ideal S300x5 .f32) transposes_S300x5_S5x300_1_0 : Vec Ideal S5x300 .f32) := by
  show StableHlo.after (List.flatten [hostOps0]) (fun b => m (c, b)) (Proc.devRef .tc main_v2) = _
  simp only [List.flatten_cons, List.flatten_nil, List.append_nil]
  after_results_simp

/-- The prediction array and the box array of device `c`. -/
abbrev pred (c : Dev nD) : Vec Ideal S16x255x76x76 .f32 := m (c.tc.loc main_arg0)
abbrev gts (c : Dev nD) : Vec Ideal S300x5 .f32 := m (c.tc.loc main_arg1)

variable (c : Dev nD) (t : Fin cfg0.N)

/-- Where an element of window 1's block sits in its array: 85 channels on. -/
theorem emb1 (y : S16x5x76x76.Idx) (a : Fin 4) :
    (((win0_1.rect t0_0).emb y a : Fin _) : ℕ) = ![0, 85, 0, 0] a + y a := by
  rw [win0_1.rect_emb_val t0_0 y a]
  congr 1
  revert a; decide +kernel

theorem blk0 (b : Fin 16) (k : Fin 5) (j i : Fin 76) :
    (iblk m c 0 t : Vec Ideal S16x5x76x76 .f32) (ix4 b k j i) = pred m c (ix4 b ⟨k.1, by omega⟩ j i) := by
  rcases fin_N0 t with rfl
  show V m c main_v0 ((win0_0.rect t0_0).emb (ix4 b k j i)) = _
  rw [V_v0]
  refine congrArg (pred m c) (funext fun a => Fin.ext ?_)
  show ![0, 0, 0, 0] a + (((win0_0.rect t0_0).emb (ix4 b k j i) a : Fin _) : ℕ) = _
  rw [win0_0.rect_emb_val_of_index_zero t0_0 a ((by decide +kernel : ∀ a : Fin 4, win0_0.index t0_0 a = 0) a)]
  fin_cases a <;> simp [ix4]

theorem blk1 (b : Fin 16) (k : Fin 5) (j i : Fin 76) :
    (iblk m c 1 t : Vec Ideal S16x5x76x76 .f32) (ix4 b k j i) = pred m c (ix4 b ⟨85 + k.1, by omega⟩ j i) := by
  rcases fin_N0 t with rfl
  show V m c main_v0 ((win0_1.rect t0_0).emb (ix4 b k j i)) = _
  rw [V_v0]
  refine congrArg (pred m c) (funext fun a => Fin.ext ?_)
  show ![0, 0, 0, 0] a + (((win0_1.rect t0_0).emb (ix4 b k j i) a : Fin _) : ℕ) = _
  rw [emb1]
  fin_cases a <;> simp [ix4]

theorem blk2 (b : Fin 16) (k : Fin 5) (j i : Fin 76) :
    (iblk m c 2 t : Vec Ideal S16x5x76x76 .f32) (ix4 b k j i) = pred m c (ix4 b ⟨170 + k.1, by omega⟩ j i) := by
  rcases fin_N0 t with rfl
  show V m c main_v1 ((win0_2.rect t0_0).emb (ix4 b k j i)) = _
  rw [V_v1]
  refine congrArg (pred m c) (funext fun a => Fin.ext ?_)
  show ![0, 170, 0, 0] a + (((win0_2.rect t0_0).emb (ix4 b k j i) a : Fin _) : ℕ) = _
  rw [win0_2.rect_emb_val_of_index_zero t0_0 a ((by decide +kernel : ∀ a : Fin 4, win0_2.index t0_0 a = 0) a)]
  fin_cases a <;> simp [ix4]

theorem blk3 : (iblk m c 3 t : Vec Ideal S300x5 .f32) = gts m c := by
  funext y
  rcases fin_N0 t with rfl
  show V m c main_arg1 ((win0_3.rect t0_0).emb y) = _
  rw [V_main_arg1]
  refine congrArg (gts m c) (funext fun a => Fin.ext ?_)
  exact win0_3.rect_emb_val_of_index_zero t0_0 a (by revert a; decide +kernel) y

theorem blk4 (k : Fin 5) (g : Fin 300) : (iblk m c 4 t : Vec Ideal S5x300 .f32) (ix2 k g) = gts m c (ix2 g k) := by
  rcases fin_N0 t with rfl
  have e : (win0_4.rect t0_0).emb (ix2 k g) = (ix2 k g : S5x300.Idx) := funext fun a => Fin.ext
    (win0_4.rect_emb_val_of_index_zero t0_0 a (by revert a; decide +kernel) (ix2 k g : S5x300.Idx))
  show V m c main_v2 ((win0_4.rect t0_0).emb (ix2 k g)) = _
  rw [e, V_v2]
  pointwise []

/-- The scene of a prediction array and a box array. -/
def scene (P : Vec Ideal S16x255x76x76 .f32) (G : Vec Ideal S300x5 .f32) : Scene :=
  Scene.of (fun b k j i => P (ix4 b k j i)) fun g k => G (ix2 g k)

theorem scene_blk : sceneOf (iblk m c 0 t) (iblk m c 1 t) (iblk m c 2 t) (iblk m c 3 t) = scene (pred m c) (gts m c) := by
  unfold sceneOf scene Scene.of
  simp only [blk3]
  congr 1
  funext b a k j i
  fin_cases a
  · exact (blk0 m c t b k j i).trans (by simp)
  · exact (blk1 m c t b k j i).trans (by simp)
  · exact (blk2 m c t b k j i).trans (by simp)

theorem flushed_eq (h : CellsOk (scene (pred m c) (gts m c))) :
    (dats m 0 c).flushed 5 t = ((cfg0.win 5).blk t).view.read (Elt Ideal)
      ((fun _ => (scene (pred m c) (gts m c)).kernelLoss : Vec Ideal S1x1 .f32)) := by
  show (cfg0.win 5).cut (grid0.coords t) ((dats m 0 c).after 5 t) = _
  rw [after0_5]
  funext y
  have e := out_eq (iblk m c 0 t) (iblk m c 1 t) (iblk m c 2 t) (iblk m c 3 t) (iblk m c 4 t)
    (fun g k => by rw [blk4, blk3]) (by rw [scene_blk]; exact h.1) (by rw [scene_blk]; exact h.2)
  rw [scene_blk] at e
  refine Eq.trans ?_ e
  refine congrArg (out0_5 (F := Ideal) _ _ _ _ _) (funext fun a => ?_)
  fin_cases a <;> exact @Subsingleton.elim (Fin 1) _ _ _

theorem cover (i : S1x1.Idx) :
    ∃ t : Fin cfg0.N, (cfg0.win 5).flush t = true ∧ i ∈ ((cfg0.win 5).blk t).view.set := by
  refine ⟨t0_0, flush0_5 _, ?_⟩
  show i ∈ ((View.whole main_v3).slice (win0_5.rect t0_0)).set
  rw [View.set_slice_whole, Rect.mem_set_unit]
  intro a
  have e : ∀ a : Fin 2, win0_5.index t0_0 a * win0_5.size a = 0 ∧ win0_5.xsize (grid0.coords t0_0) a = 1 := by decide +kernel
  have hi : (i a : ℕ) = 0 := by
    revert a; intro (a : Fin 2)
    fin_cases a
    · exact Nat.lt_one_iff.mp (i 0).isLt
    · exact Nat.lt_one_iff.mp (i 1).isLt
  show win0_5.index t0_0 a * win0_5.size a ≤ (i a : ℕ) ∧ (i a : ℕ) < win0_5.index t0_0 a * win0_5.size a + win0_5.xsize (grid0.coords t0_0) a
  rw [(e a).1, (e a).2, hi]
  omega

theorem final_out (h : CellsOk (scene (pred m c) (gts m c))) : (dats m 0 c).arrAt 5 cfg0.N
    = (fun _ => (scene (pred m c) (gts m c)).kernelLoss : Vec Ideal S1x1 .f32) :=
  (dats m 0 c).arrAt_eq_of_cover 5 _ (fun t _ => flushed_eq m c t h) cover

theorem tail_v4 (h : CellsOk (scene (pred m c) (gts m c))) :
    Pipeline.afterTail₀ cfgs (dats m) 0 (V0 m) [hostOps1] c main_v4
      = (fun _ => (scene (pred m c) (gts m c)).kernelLoss : Vec Ideal S_ .f32) := by
  unfold Pipeline.afterTail₀
  simp only [List.flatten_cons, List.flatten_nil, List.append_nil]
  after_results_simp
  have e := (Dat.withArrays_arrAt (dats m 0 c) sharedIn0 (V0 m c) (A_eq m c) 5).trans (final_out m c h)
  refine funext fun i => ?_
  exact congrFun (congrArg (fun x : Vec Ideal S1x1 .f32 => shapeCast S_ x shapeCasts_S1x1_S_) e) i

/-- The kernel's run: the scalar it leaves is the loss of the scene, as the kernel groups it. -/
theorem run (h : ∀ c, CellsOk (scene (pred m c) (gts m c))) :
    θ_run defs (onTc (τ := τ) (main (F := Ideal))) ⟨m, fun _ => 0, ρ⟩ fun r => ∀ c : Dev nD,
      r.2.mem (c.tc.loc main_v4) = (fun _ => (scene (pred m c) (gts m c)).kernelLoss : Vec Ideal S_ .f32)
      ∧ r.2.mem (c.tc.loc main_arg0) = m (c.tc.loc main_arg0)
      ∧ r.2.mem (c.tc.loc main_arg1) = m (c.tc.loc main_arg1) := by
  refine (θ_run defs _ _).mono (fun r hr c => ⟨?_, hr.2.1 c⟩) (θ_run_and (run_main m ρ) (frame m ρ))
  exact ((hr.1 c).2 main_v4 (Pipeline.mem_restRefs_of main_v4 (by decide) (by decide))).trans (tail_v4 m c (h c))

end Cert.KernelIdeal.Val
-- ==== Proof.Scatter.lean ====
/- The reference's scatters read at one element: a set keeps the last update that lands there, a minimum with a zero clears
   it, and an update lands where its four index words say. -/
module

public import proofs.«01_k».proof.Proof.Bits
public import proofs.«01_k».proof.Proof.Gen.ReferenceIdeal
public import Idealize.ShloMosaic.Lib.Routing.OpsOrder
public import Idealize.ShloMosaic.Lib.Routing.OpsSet
public import Idealize.ShloMosaic.Lib.Pointwise

@[expose] public section

set_option maxRecDepth 16384

noncomputable section

namespace Cert.ReferenceIdeal.Val

open Idealize.ShloMosaic Idealize.ShloMosaic.Pointwise Idealize.ShloMosaic.Routing Cert.ReferenceIdeal Cert.ReferenceIdeal.Gen
open scoped Classical

/-- In an increasing list, a fold that overwrites at the hits ends at the last hit's value. -/
theorem foldl_last {α : Type} {n : ℕ} (P : Fin n → Prop) (v : Fin n → α) (k : Fin n) (hk : P k) (hlast : ∀ l, k < l → ¬P l) :
    ∀ (L : List (Fin n)) (x : α), L.Pairwise (· < ·) → k ∈ L → L.foldl (fun a l => if P l then v l else a) x = v k
  | [], _, _, hm => absurd hm (by simp)
  | l :: L, x, hs, hm => by
    rw [List.pairwise_cons] at hs
    rw [List.foldl_cons]
    by_cases e : k ∈ L
    · exact foldl_last P v k hk hlast L _ hs.2 e
    · have hkl : k = l := by simpa [e] using hm
      subst hkl
      rw [if_pos hk]
      have : ∀ (M : List (Fin n)) (y : α), (∀ q ∈ M, ¬P q) → M.foldl (fun a l => if P l then v l else a) y = y := by
        intro M
        induction M with
        | nil => intro y _; rfl
        | cons q M ih =>
          intro y h
          rw [List.foldl_cons, if_neg (h q (by simp))]
          exact ih y fun q' hq' => h q' (by simp [hq'])
      exact this L _ fun q hq => hlast q (hs.1 q hq)

/-- A scatter that sets, at an element where update `k` lands and no later one does. -/
theorem scatter_last {α : Type} {s si u : Shape} {w : Nat} (d : ScatterDims s si u) (x0 : s.Idx → α) (idx : IVec si w)
    (upd : u.Idx → α) (ι : s.Idx) (k : u.Idx) (hk : d.resultIdx? k idx = some ι)
    (hlast : ∀ l : u.Idx, u.rowMajor k < u.rowMajor l → d.resultIdx? l idx ≠ some ι) :
    Host.scatter d (fun _ b => b) x0 idx upd ι = upd k := by
  rw [← scatterIn_finRange, scatterIn_at]
  have h := foldl_last (fun n => d.resultIdx? (u.rowMajor.symm n) idx = some ι) (fun n => upd (u.rowMajor.symm n))
    (u.rowMajor k) (by simpa using hk)
    (fun l hl => hlast (u.rowMajor.symm l) (by simpa using hl)) (List.finRange u.numel) (x0 ι) (List.pairwise_lt_finRange _) (List.mem_finRange _)
  refine Eq.trans ?_ (h.trans (by simp))
  congr!

/-- A minimum with zeros and ones, at an element holding 0 or 1: zero once a zero is met. -/
theorem foldl_min {ι : Type} (P : ι → Prop) (v : ι → BitVec 32) (hv : ∀ l, v l = 0#32 ∨ v l = 1#32) :
    ∀ (L : List ι) (x : BitVec 32), x = 0#32 ∨ x = 1#32 →
    L.foldl (fun a l => if P l then IntOp.minsi a (v l) else a) x = if ∃ l ∈ L, P l ∧ v l = 0#32 then 0#32 else x
  | [], x, _ => by simp
  | l :: L, x, hx => by
    rw [List.foldl_cons]
    by_cases e : P l
    · rw [if_pos e]
      rcases hv l with h | h
      · have h0 : IntOp.minsi x (v l) = 0#32 := by rw [h]; rcases hx with rfl | rfl <;> decide
        rw [h0, foldl_min P v hv L _ (Or.inl rfl), ite_self, if_pos ⟨l, List.mem_cons_self, e, h⟩]
      · have h0 : IntOp.minsi x (v l) = x := by rw [h]; rcases hx with rfl | rfl <;> decide
        have h1 : ¬(v l = 0#32) := by rw [h]; decide
        rw [h0, foldl_min P v hv L x hx]
        simp [h1]
    · rw [if_neg e, foldl_min P v hv L x hx]
      simp [e]

/-- A scatter of minima with zeros and ones into zeros and ones: zero where some zero lands, else as before. -/
theorem scatter_min {s si u : Shape} {w : Nat} (d : ScatterDims s si u) (x0 : IVec s 32) (idx : IVec si w)
    (upd : IVec u 32) (hu : ∀ j, upd j = 0#32 ∨ upd j = 1#32) (ι : s.Idx) (hx : x0 ι = 0#32 ∨ x0 ι = 1#32) :
    Host.scatter d IntOp.minsi x0 idx upd ι
      = if ∃ k : u.Idx, d.resultIdx? k idx = some ι ∧ upd k = 0#32 then 0#32 else x0 ι := by
  rw [← scatterIn_finRange, scatterIn_at]
  refine Eq.trans ?_ ((foldl_min (fun n => d.resultIdx? (u.rowMajor.symm n) idx = some ι) (fun n => upd (u.rowMajor.symm n))
    (fun n => hu _) (List.finRange u.numel) _ hx).trans ?_)
  · congr!
  by_cases h : ∃ k : u.Idx, d.resultIdx? k idx = some ι ∧ upd k = 0#32
  · rw [if_pos h, if_pos]
    obtain ⟨k, hk⟩ := h
    exact ⟨u.rowMajor k, List.mem_finRange _, by simpa using hk⟩
  · rw [if_neg h, if_neg]
    exact fun ⟨l, _, hl⟩ => h ⟨_, hl⟩

/-- Where an update lands, every operand axis inserted and named: at the element its index words give. -/
theorem lands_iff {s si u : Shape} {w : Nat} (d : ScatterDims s si u) (j : u.Idx) (idx : IVec si w) (ι : s.Idx)
    (f : Fin s.rank → Int) (hs : ∀ a, d.start j idx a = f a) (hw : ∀ a, d.window j a = 0) :
    d.resultIdx? j idx = some ι ↔ ∀ a, f a = ((ι a : ℕ) : Int) := by
  unfold ScatterDims.resultIdx?
  simp only [hs, hw, Nat.cast_zero, add_zero]
  split
  · next h =>
    constructor
    · intro e a
      have := congrArg Fin.val (congrFun (Option.some.inj e) a)
      have h1 := h a
      simp only at this
      omega
    · intro e
      refine congrArg some (funext fun a => Fin.ext ?_)
      have := e a
      show (f a).toNat = _
      omega
  · next h =>
    constructor
    · intro e; cases e
    · intro e
      refine (h fun a => ?_).elim
      rw [e a]
      have := (ι a).isLt
      omega

theorem lands4 (k : Fin 300) (idx : IVec S300x4 32) (ι : S16x3x76x76.Idx) :
    scatter_S16x3x76x76_S300x4_S300_n_0123_0123_1.resultIdx? (ix1 k) idx = some ι
      ↔ ∀ a : Fin 4, (idx (ix2 k a)).toInt = ((ι a : ℕ) : Int) := by
  refine lands_iff (s := S16x3x76x76) _ _ _ _ (fun a : Fin 4 => (idx (ix2 k a)).toInt) (fun a => ?_) (fun a => ?_)
  · unfold ScatterDims.start
    have hm : a ∈ scatter_S16x3x76x76_S300x4_S300_n_0123_0123_1.scatterDimsToOperandDims := by
      revert a; intro (a : Fin 4); show a ∈ [0, 1, 2, 3]; fin_cases a <;> simp
    rw [dif_pos hm]
    refine congrArg (fun y => (idx y).toInt) (funext fun b => Fin.ext ?_)
    revert b; intro (b : Fin 2)
    revert a; intro (a : Fin 4) hm
    match b with
    | ⟨0, _⟩ =>
      unfold ScatterDims.siIdx
      rw [dif_neg (by show ¬((0 : ℕ) = 1); omega)]
      unfold ScatterDims.siCoord
      simp only [Fin.val_cast]
      have e : ∀ X : Fin 1, ((ix1 k : S300.Idx) X).val = k.val := fun X => by
        obtain rfl : X = 0 := Subsingleton.elim _ _
        rfl
      exact e _
    | ⟨1, _⟩ =>
      unfold ScatterDims.siIdx
      rw [dif_pos (by show (1 : ℕ) = 1; rfl)]
      show List.idxOf a [0, 1, 2, 3] = a
      fin_cases a <;> decide
  · unfold ScatterDims.window
    rw [dif_neg]
    revert a; intro (a : Fin 4)
    show ¬(a ∈ S16x3x76x76.kept [0, 1, 2, 3])
    fin_cases a <;> decide

theorem lands34 (k : Fin 300) (l : Fin 3) (idx : IVec S300x3x4 32) (ι : S16x3x76x76.Idx) :
    scatter_S16x3x76x76_S300x3x4_S300x3_n_0123_0123_2.resultIdx? (ix2 k l) idx = some ι
      ↔ ∀ a : Fin 4, (idx (ix3 k l a)).toInt = ((ι a : ℕ) : Int) := by
  refine lands_iff (s := S16x3x76x76) _ _ _ _ (fun a : Fin 4 => (idx (ix3 k l a)).toInt) (fun a => ?_) (fun a => ?_)
  · unfold ScatterDims.start
    have hm : a ∈ scatter_S16x3x76x76_S300x3x4_S300x3_n_0123_0123_2.scatterDimsToOperandDims := by
      revert a; intro (a : Fin 4); show a ∈ [0, 1, 2, 3]; fin_cases a <;> simp
    rw [dif_pos hm]
    refine congrArg (fun y => (idx y).toInt) (funext fun b => Fin.ext ?_)
    revert b; intro (b : Fin 3)
    revert a; intro (a : Fin 4) hm
    match b with
    | ⟨0, _⟩ =>
      unfold ScatterDims.siIdx
      rw [dif_neg (by show ¬((0 : ℕ) = 2); omega)]
      rfl
    | ⟨1, _⟩ =>
      unfold ScatterDims.siIdx
      rw [dif_neg (by show ¬((1 : ℕ) = 2); omega)]
      rfl
    | ⟨2, _⟩ =>
      unfold ScatterDims.siIdx
      rw [dif_pos (by show (2 : ℕ) = 2; rfl)]
      show List.idxOf a [0, 1, 2, 3] = a
      fin_cases a <;> decide
  · unfold ScatterDims.window
    rw [dif_neg]
    revert a; intro (a : Fin 4)
    show ¬(a ∈ S16x3x76x76.kept [0, 1, 2, 3])
    fin_cases a <;> decide

end Cert.ReferenceIdeal.Val
-- ==== Proof.RefIn.lean ====
/- The reference's first values, read at an index: the boxes' coordinates, their overlaps with the anchors, their anchors and
   cells, and the index words of the scatters. -/
module

public import proofs.«01_k».proof.Proof.Scatter
public import proofs.«01_k».proof.Proof.Gen.ReferenceIdeal.Run
public import Idealize.ShloMosaic.Lib.Tactic.CleanTypes

@[expose] public section

set_option maxRecDepth 16384

noncomputable section

namespace Cert.ReferenceIdeal.Val

open Idealize.ShloMosaic Idealize.ShloMosaic.Pointwise Cert.ReferenceIdeal Cert.ReferenceIdeal.Gen
open Cert.ReferenceIdeal.Value Cert.Yolo
open scoped Classical

variable (V0 : Valuation τ sig (Elt Ideal))

/-- The prediction array and the box array. -/
abbrev pred : Vec Ideal S16x255x76x76 .f32 := V0 (Proc.devRef .tc main_arg0)
abbrev gts : Vec Ideal S300x5 .f32 := V0 (Proc.devRef .tc main_arg1)

/-- The scene the reference is given. -/
def sc : Scene := Scene.of (fun b k j i => pred V0 (ix4 b k j i)) fun g k => gts V0 (ix2 g k)

theorem boxX (g : Fin 300) : (res_main_v33 V0 : Vec Ideal S300 .f32) (ix1 g) = (sc V0).x g := by
  unfold res_main_v33; clean_types; pointwise []; rfl
theorem boxY (g : Fin 300) : (res_main_v35 V0 : Vec Ideal S300 .f32) (ix1 g) = (sc V0).y g := by
  unfold res_main_v35; clean_types; pointwise []; rfl
theorem boxW (g : Fin 300) : (res_main_v37 V0 : Vec Ideal S300 .f32) (ix1 g) = (sc V0).w g := by
  unfold res_main_v37; clean_types; pointwise []; rfl
theorem boxH (g : Fin 300) : (res_main_v39 V0 : Vec Ideal S300 .f32) (ix1 g) = (sc V0).h g := by
  unfold res_main_v39; clean_types; pointwise []; rfl

theorem a41 (j : S_.Idx) : (res_main_v41 V0 : Vec Ideal S_ .f32) j = anchorW 0 := by
  unfold res_main_v41 res_main_cst_1; clean_types; pointwise []; rfl
theorem a43 (j : S_.Idx) : (res_main_v43 V0 : Vec Ideal S_ .f32) j = anchorH 0 := by
  unfold res_main_v43 res_main_cst_1; clean_types; pointwise []; rfl
theorem a58 (j : S_.Idx) : (res_main_v58 V0 : Vec Ideal S_ .f32) j = anchorW 1 := by
  unfold res_main_v58 res_main_cst_1; clean_types; pointwise []; rfl
theorem a60 (j : S_.Idx) : (res_main_v60 V0 : Vec Ideal S_ .f32) j = anchorH 1 := by
  unfold res_main_v60 res_main_cst_1; clean_types; pointwise []; rfl
theorem a75 (j : S_.Idx) : (res_main_v75 V0 : Vec Ideal S_ .f32) j = anchorW 2 := by
  unfold res_main_v75 res_main_cst_1; clean_types; pointwise []; rfl
theorem a77 (j : S_.Idx) : (res_main_v77 V0 : Vec Ideal S_ .f32) j = anchorH 2 := by
  unfold res_main_v77 res_main_cst_1; clean_types; pointwise []; rfl

theorem inter0 (g : Fin 300) : (res_main_v48 V0 : Vec Ideal S300 .f32) (ix1 g) = min ((sc V0).w g) (anchorW 0) * min ((sc V0).h g) (anchorH 0) := by
  unfold res_main_v48; clean_types; pointwise []; rw [boxW, boxH, a41, a43]
theorem inter1 (g : Fin 300) : (res_main_v65 V0 : Vec Ideal S300 .f32) (ix1 g) = min ((sc V0).w g) (anchorW 1) * min ((sc V0).h g) (anchorH 1) := by
  unfold res_main_v65; clean_types; pointwise []; rw [boxW, boxH, a58, a60]
theorem inter2 (g : Fin 300) : (res_main_v82 V0 : Vec Ideal S300 .f32) (ix1 g) = min ((sc V0).w g) (anchorW 2) * min ((sc V0).h g) (anchorH 2) := by
  unfold res_main_v82; clean_types; pointwise []; rw [boxW, boxH, a75, a77]

theorem ov0 (g : Fin 300) : (res_main_v94 V0 : Vec Ideal S3x300 .f32) (ix2 0 g) = (sc V0).ov 0 g := by
  unfold res_main_v94; clean_types; pointwise []; rw [inter0, boxW, boxH, a41, a43]; rfl
theorem ov1 (g : Fin 300) : (res_main_v94 V0 : Vec Ideal S3x300 .f32) (ix2 1 g) = (sc V0).ov 1 g := by
  unfold res_main_v94; clean_types; pointwise []; rw [inter1, boxW, boxH, a58, a60]; rfl
theorem ov2 (g : Fin 300) : (res_main_v94 V0 : Vec Ideal S3x300 .f32) (ix2 2 g) = (sc V0).ov 2 g := by
  unfold res_main_v94; clean_types; pointwise []; rw [inter2, boxW, boxH, a75, a77]; rfl

theorem fold3 {α : Type} (op : α → α → α) [Std.Commutative op] [Std.Associative op] (b : α) (f : Fin 3 → α) :
    Finset.fold op b f Finset.univ = op (f 0) (op (f 1) (op (f 2) b)) := rfl

theorem ofBits_bot' : Ideal.ofBits FTy.f32 4286578688#32 = ⊥ := ofBits_bot

/-- The least index at which the greatest overlap is met, as the reference's word. -/
theorem best_word (i0 i1 i2 : EReal) :
    IntOp.minsi (if i0 = max i0 (max i1 (max i2 ⊥)) then BitVec.ofNat 32 ((0 : Fin 3) : ℕ) else id (constantI S_ 32 3#32) ix0)
      (IntOp.minsi (if i1 = max i0 (max i1 (max i2 ⊥)) then BitVec.ofNat 32 ((1 : Fin 3) : ℕ) else id (constantI S_ 32 3#32) ix0)
        (IntOp.minsi (if i2 = max i0 (max i1 (max i2 ⊥)) then BitVec.ofNat 32 ((2 : Fin 3) : ℕ) else id (constantI S_ 32 3#32) ix0) 2147483647#32))
      = BitVec.ofNat 32 ((if max i0 i1 < i2 then 2 else if i0 < i1 then 1 else 0 : Fin 3) : ℕ) := by
  have e3 : id (constantI S_ 32 3#32) ix0 = 3#32 := rfl
  rw [e3, max_bot_right]
  by_cases h2 : max i0 i1 < i2
  · have h0 := (max_lt_iff.mp h2).1
    have h1 := (max_lt_iff.mp h2).2
    rw [max_eq_right h1.le, max_eq_right h0.le, if_neg h0.ne, if_neg h1.ne, if_pos rfl, if_pos h2]
    decide
  · have h2' : i2 ≤ max i0 i1 := not_lt.mp h2
    rw [← max_assoc, max_eq_left h2', if_neg h2]
    by_cases h1 : i0 < i1
    · rw [max_eq_right h1.le, if_neg h1.ne, if_pos rfl, if_pos h1]
      by_cases h : i2 = i1
      · rw [if_pos h]; decide
      · rw [if_neg h]; decide
    · rw [max_eq_left (not_lt.mp h1), if_pos rfl, if_neg h1]
      by_cases h : i1 = i0 <;> by_cases h' : i2 = i0 <;> simp only [h, h', if_true, if_false] <;> decide

theorem best0 (g : Fin 300) : (res_main_v102 V0 : IVec S300 32) (ix1 g) = BitVec.ofNat 32 ((sc V0).anchor g : ℕ) := by
  unfold res_main_v102; clean_types
  rw [Host.reduce_eq_fold]
  pointwise []
  rw [fold3, fold3]
  simp only [ov0, ov1, ov2, ofBits_bot']
  exact best_word _ _ _

theorem cellX (g : Fin 300) : (res_main_v108 V0 : IVec S300 32) (ix1 g) = cellWord ((sc V0).x g) := by
  unfold res_main_v108; clean_types; pointwise []; rw [boxX]; rfl
theorem cellY (g : Fin 300) : (res_main_v111 V0 : IVec S300 32) (ix1 g) = cellWord ((sc V0).y g) := by
  unfold res_main_v111; clean_types; pointwise []; rw [boxY]; rfl
theorem batch (g : Fin 300) : (res_main_v105 V0 : IVec S300 32) (ix1 g) = Ideal.fptosi 32 (gts V0 (ix2 g 0)) := by
  unfold res_main_v105; clean_types; pointwise []; rfl

/-! ## The index words -/

/-- The four index words of each box: image, anchor, row, column. -/
def words : IVec S300x4 32 :=
  concatenate S300x4 1 [⟨S300x1, ((broadcastInDim S300x1 ![0] bcast_S300_S300x1_0 (select (cmpi .slt (res_main_v105 V0) (broadcastInDim S300 ![] bcast_S_S300 (constantI S_ 32 0#32))) (addi (res_main_v105 V0) (broadcastInDim S300 ![] bcast_S_S300 (constantI S_ 32 16#32))) (res_main_v105 V0))) : (⟨S300x1, .i32⟩ : BufTy).Contents (Elt Ideal))⟩, ⟨S300x1, ((broadcastInDim S300x1 ![0] bcast_S300_S300x1_0 (select (cmpi .slt (res_main_v102 V0) (broadcastInDim S300 ![] bcast_S_S300 (constantI S_ 32 0#32))) (addi (res_main_v102 V0) (broadcastInDim S300 ![] bcast_S_S300 (constantI S_ 32 3#32))) (res_main_v102 V0))) : (⟨S300x1, .i32⟩ : BufTy).Contents (Elt Ideal))⟩, ⟨S300x1, ((broadcastInDim S300x1 ![0] bcast_S300_S300x1_0 (select (cmpi .slt (res_main_v111 V0) (broadcastInDim S300 ![] bcast_S_S300 (constantI S_ 32 0#32))) (addi (res_main_v111 V0) (broadcastInDim S300 ![] bcast_S_S300 (constantI S_ 32 76#32))) (res_main_v111 V0))) : (⟨S300x1, .i32⟩ : BufTy).Contents (Elt Ideal))⟩, ⟨S300x1, ((broadcastInDim S300x1 ![0] bcast_S300_S300x1_0 (select (cmpi .slt (res_main_v108 V0) (broadcastInDim S300 ![] bcast_S_S300 (constantI S_ 32 0#32))) (addi (res_main_v108 V0) (broadcastInDim S300 ![] bcast_S_S300 (constantI S_ 32 76#32))) (res_main_v108 V0))) : (⟨S300x1, .i32⟩ : BufTy).Contents (Elt Ideal))⟩] concatenates_S300x1_S300x1_S300x1_S300x1_S300x4_d1

/-- What the precondition gives: every box in image 0, its cell words its cells. -/
structure BoxesOk : Prop where
  image : ∀ g, Ideal.fptosi 32 (gts V0 (ix2 g 0)) = 0#32
  cells : CellsOk (sc V0)

variable (hV : BoxesOk V0)
include hV

theorem w0 (g : Fin 300) : (words V0 (ix2 g 0)).toInt = 0 := by
  unfold words; pointwise []; rw [batch, hV.image]; rfl

theorem w1 (g : Fin 300) : (words V0 (ix2 g 1)).toInt = ((sc V0).anchor g : ℕ) := by
  unfold words; pointwise []; rw [best0]
  generalize (sc V0).anchor g = a
  revert a; decide

theorem w2 (g : Fin 300) : (words V0 (ix2 g 2)).toInt = ((sc V0).cj g : ℕ) := by
  unfold words; pointwise []; rw [cellY, hV.cells.2]
  generalize (sc V0).cj g = a
  revert a; decide

theorem w3 (g : Fin 300) : (words V0 (ix2 g 3)).toInt = ((sc V0).ci g : ℕ) := by
  unfold words; pointwise []; rw [cellX, hV.cells.1]
  generalize (sc V0).ci g = a
  revert a; decide

/-- Box `g` lands at a cell of image 0, its anchor, its row and column. -/
theorem lands (g : Fin 300) (b : Fin 16) (a : Fin 3) (j i : Fin 76) :
    scatter_S16x3x76x76_S300x4_S300_n_0123_0123_1.resultIdx? (ix1 g) (words V0) = some (ix4 b a j i)
      ↔ b = 0 ∧ (sc V0).anchor g = a ∧ (sc V0).cj g = j ∧ (sc V0).ci g = i := by
  rw [lands4]
  constructor
  · intro h
    have h0 := h 0; have h1 := h 1; have h2 := h 2; have h3 := h 3
    rw [w0 V0 hV] at h0; rw [w1 V0 hV] at h1; rw [w2 V0 hV] at h2; rw [w3 V0 hV] at h3
    refine ⟨Fin.ext ?_, Fin.ext ?_, Fin.ext ?_, Fin.ext ?_⟩
    · exact (Int.ofNat.inj h0).symm
    · exact Int.ofNat.inj h1
    · exact Int.ofNat.inj h2
    · exact Int.ofNat.inj h3
  · rintro ⟨rfl, rfl, rfl, rfl⟩ x
    fin_cases x
    · exact w0 V0 hV g
    · exact w1 V0 hV g
    · exact w2 V0 hV g
    · exact w3 V0 hV g

end Cert.ReferenceIdeal.Val
-- ==== Proof.RefMasks.lean ====
/- The reference's masks and scattered targets, read at a cell. -/
module

public import proofs.«01_k».proof.Proof.RefIn

@[expose] public section

set_option maxRecDepth 16384

noncomputable section

namespace Cert.Yolo.Scene

open scoped Classical

variable (s : Scene)

/-- Of the boxes with one anchor and cell there is a last. -/
theorem exists_last {a : Fin 3} {j i : Fin 76} (h : ∃ g, s.anchor g = a ∧ s.cj g = j ∧ s.ci g = i) :
    ∃ g, (s.anchor g = a ∧ s.cj g = j ∧ s.ci g = i) ∧ s.last g := by
  let T : Finset (Fin 300) := Finset.univ.filter fun g => s.anchor g = a ∧ s.cj g = j ∧ s.ci g = i
  have hT : T.Nonempty := let ⟨g, hg⟩ := h; ⟨g, by simpa [T] using hg⟩
  refine ⟨T.max' hT, by simpa [T] using T.max'_mem hT, ?_⟩
  rintro ⟨l, hl, hs, ha⟩
  have hm : s.anchor (T.max' hT) = a ∧ s.cj (T.max' hT) = j ∧ s.ci (T.max' hT) = i := by simpa [T] using T.max'_mem hT
  have : l ∈ T := by
    simp only [T, Finset.mem_filter, Finset.mem_univ, true_and]
    exact ⟨ha.symm.trans hm.1, hs.1.symm.trans hm.2.1, hs.2.symm.trans hm.2.2⟩
  exact absurd (T.le_max' l this) (not_le.mpr hl)

theorem holder_spec {a : Fin 3} {j i : Fin 76} (h : ∃ g, s.anchor g = a ∧ s.cj g = j ∧ s.ci g = i) :
    (s.anchor (s.holder a j i) = a ∧ s.cj (s.holder a j i) = j ∧ s.ci (s.holder a j i) = i) ∧ s.last (s.holder a j i) := by
  unfold holder
  rw [dif_pos (s.exists_last h)]
  exact (s.exists_last h).choose_spec

/-- A last box is the one its cell's targets are taken from. -/
theorem holder_of_last {g : Fin 300} (h : s.last g) : s.holder (s.anchor g) (s.cj g) (s.ci g) = g := by
  obtain ⟨⟨ha, hj, hi⟩, hl⟩ := s.holder_spec ⟨g, rfl, rfl, rfl⟩
  rcases lt_trichotomy (s.holder (s.anchor g) (s.cj g) (s.ci g)) g with h1 | h1 | h1
  · exact absurd ⟨g, h1, ⟨hj, hi⟩, ha⟩ hl
  · exact h1
  · exact absurd ⟨_, h1, ⟨hj.symm, hi.symm⟩, ha.symm⟩ h

end Cert.Yolo.Scene

namespace Cert.ReferenceIdeal.Val

open Idealize.ShloMosaic Idealize.ShloMosaic.Pointwise Idealize.ShloMosaic.Routing Cert.ReferenceIdeal Cert.ReferenceIdeal.Gen
open Cert.ReferenceIdeal.Value Cert.Yolo
open scoped Classical

variable (V0 : Valuation τ sig (Elt Ideal)) (hV : BoxesOk V0)

theorem rank1 (k : S300.Idx) : ∃ g : Fin 300, k = ix1 g :=
  ⟨k 0, by funext a; obtain rfl : a = 0 := Subsingleton.elim (α := Fin 1) _ _; rfl⟩

theorem rank2 (k : S300x3.Idx) : ∃ (g : Fin 300) (l : Fin 3), k = ix2 g l :=
  ⟨k 0, k 1, by funext a; revert a; intro (a : Fin 2); fin_cases a <;> rfl⟩

include hV

/-- A set of one value. -/
theorem scatter_const {α : Type} (x0 : S16x3x76x76.Idx → α) (upd : S300.Idx → α) (v : α) (hv : ∀ k, upd k = v)
    (b : Fin 16) (a : Fin 3) (j i : Fin 76) :
    Host.scatter scatter_S16x3x76x76_S300x4_S300_n_0123_0123_1 (fun _ b => b) x0 (words V0) upd (ix4 b a j i)
      = if (sc V0).obj b a j i then v else x0 (ix4 b a j i) := by
  by_cases h : (sc V0).obj b a j i
  · rw [if_pos h]
    obtain ⟨hb, g, hg⟩ := h
    exact scatter_set_hit _ _ _ _ _ v (fun k _ => hv k) (ix1 g) ((lands V0 hV g b a j i).mpr ⟨hb, hg⟩)
  · rw [if_neg h]
    refine scatter_set_miss _ _ _ _ _ fun k hk => h ?_
    obtain ⟨g, rfl⟩ := rank1 k
    rw [lands V0 hV] at hk
    exact ⟨hk.1, _, hk.2⟩

/-- A set of one value per box, at an object cell: the value of the last box there. -/
theorem scatter_box {α : Type} (x0 : S16x3x76x76.Idx → α) (upd : S300.Idx → α)
    (b : Fin 16) (a : Fin 3) (j i : Fin 76) (h : (sc V0).obj b a j i) :
    Host.scatter scatter_S16x3x76x76_S300x4_S300_n_0123_0123_1 (fun _ b => b) x0 (words V0) upd (ix4 b a j i)
      = upd (ix1 ((sc V0).holder a j i)) := by
  obtain ⟨hb, hg⟩ := h
  obtain ⟨hk, hl⟩ := (sc V0).holder_spec hg
  refine scatter_last _ _ _ _ _ _ ((lands V0 hV _ b a j i).mpr ⟨hb, hk⟩) fun l hlt hland => hl ?_
  obtain ⟨g, rfl⟩ := rank1 l
  rw [lands V0 hV] at hland
  refine ⟨g, ?_, ⟨hk.2.1.trans hland.2.2.1.symm, hk.2.2.trans hland.2.2.2.symm⟩, hk.1.trans hland.2.1.symm⟩
  rw [Fin.lt_def, Shape.rowMajor_val_one, Shape.rowMajor_val_one] at hlt
  exact hlt

theorem objWord (b : Fin 16) (a : Fin 3) (j i : Fin 76) :
    (res_main_v139 V0 : IVec S16x3x76x76 32) (ix4 b a j i) = if (sc V0).obj b a j i then 1#32 else 0#32 :=
  scatter_const V0 hV _ _ 1#32 (fun _ => rfl) b a j i

theorem objBit (b : Fin 16) (a : Fin 3) (j i : Fin 76) :
    (res_main_v317 V0 : IVec S16x3x76x76 1) (ix4 b a j i) = if (sc V0).obj b a j i then 1#1 else 0#1 := by
  show IntOp.cmpi .ne ((res_main_v139 V0 : IVec S16x3x76x76 32) (ix4 b a j i)) 0#32 = _
  rw [objWord V0 hV]
  split <;> rfl

theorem objFloat (b : Fin 16) (a : Fin 3) (j i : Fin 76) :
    (res_main_v321 V0 : Vec Ideal S16x3x76x76 .f32) (ix4 b a j i) = ind ((sc V0).obj b a j i) := by
  show ((((res_main_v139 V0 : IVec S16x3x76x76 32) (ix4 b a j i)).toInt : ℝ) : EReal) = _
  rw [objWord V0 hV]
  unfold ind
  split
  · show (((1#32 : BitVec 32).toInt : ℝ) : EReal) = 1; norm_num
  · show (((0#32 : BitVec 32).toInt : ℝ) : EReal) = 0; norm_num

/-! ## The no-object mask -/

omit hV in
theorem v172 (g : Fin 300) : (res_main_v172 V0 : IVec S300x1 32) (ix2 g 0) = (res_main_v105 V0 : IVec S300 32) (ix1 g) := by
  unfold res_main_v172; clean_types; pointwise []
omit hV in
theorem v174 (l : Fin 3) : (res_main_v174 V0 : IVec S1x3 32) (ix2 0 l) = BitVec.ofNat 32 (l : ℕ) := by
  unfold res_main_v174; clean_types; pointwise []
omit hV in
theorem v175 (g : Fin 300) : (res_main_v175 V0 : IVec S300x1 32) (ix2 g 0) = (res_main_v111 V0 : IVec S300 32) (ix1 g) := by
  unfold res_main_v175; clean_types; pointwise []
omit hV in
theorem v176 (g : Fin 300) : (res_main_v176 V0 : IVec S300x1 32) (ix2 g 0) = (res_main_v108 V0 : IVec S300 32) (ix1 g) := by
  unfold res_main_v176; clean_types; pointwise []

/-- The four index words of each box at each anchor. -/
def words3 : IVec S300x3x4 32 :=
  concatenate S300x3x4 2 [⟨S300x3x1, ((broadcastInDim S300x3x1 ![0, 1] bcast_S300x3_S300x3x1_0_1 (broadcastInDim S300x3 ![0, 1] bcast_S300x1_S300x3_0_1 (select (cmpi .slt (res_main_v172 V0) (broadcastInDim S300x1 ![] bcast_S_S300x1 (constantI S_ 32 0#32))) (addi (res_main_v172 V0) (broadcastInDim S300x1 ![] bcast_S_S300x1 (constantI S_ 32 16#32))) (res_main_v172 V0)))) : (⟨S300x3x1, .i32⟩ : BufTy).Contents (Elt Ideal))⟩, ⟨S300x3x1, ((broadcastInDim S300x3x1 ![0, 1] bcast_S300x3_S300x3x1_0_1 (broadcastInDim S300x3 ![0, 1] bcast_S1x3_S300x3_0_1 (select (cmpi .slt (res_main_v174 V0) (broadcastInDim S1x3 ![] bcast_S_S1x3 (constantI S_ 32 0#32))) (addi (res_main_v174 V0) (broadcastInDim S1x3 ![] bcast_S_S1x3 (constantI S_ 32 3#32))) (res_main_v174 V0)))) : (⟨S300x3x1, .i32⟩ : BufTy).Contents (Elt Ideal))⟩, ⟨S300x3x1, ((broadcastInDim S300x3x1 ![0, 1] bcast_S300x3_S300x3x1_0_1 (broadcastInDim S300x3 ![0, 1] bcast_S300x1_S300x3_0_1 (select (cmpi .slt (res_main_v175 V0) (broadcastInDim S300x1 ![] bcast_S_S300x1 (constantI S_ 32 0#32))) (addi (res_main_v175 V0) (broadcastInDim S300x1 ![] bcast_S_S300x1 (constantI S_ 32 76#32))) (res_main_v175 V0)))) : (⟨S300x3x1, .i32⟩ : BufTy).Contents (Elt Ideal))⟩, ⟨S300x3x1, ((broadcastInDim S300x3x1 ![0, 1] bcast_S300x3_S300x3x1_0_1 (broadcastInDim S300x3 ![0, 1] bcast_S300x1_S300x3_0_1 (select (cmpi .slt (res_main_v176 V0) (broadcastInDim S300x1 ![] bcast_S_S300x1 (constantI S_ 32 0#32))) (addi (res_main_v176 V0) (broadcastInDim S300x1 ![] bcast_S_S300x1 (constantI S_ 32 76#32))) (res_main_v176 V0)))) : (⟨S300x3x1, .i32⟩ : BufTy).Contents (Elt Ideal))⟩] concatenates_S300x3x1_S300x3x1_S300x3x1_S300x3x1_S300x3x4_d2

theorem u0 (g : Fin 300) (l : Fin 3) : (words3 V0 (ix3 g l 0)).toInt = 0 := by
  unfold words3; pointwise []; rw [v172, batch, hV.image]; rfl

omit hV in
theorem u1 (g : Fin 300) (l : Fin 3) : (words3 V0 (ix3 g l 1)).toInt = (l : ℕ) := by
  unfold words3; pointwise []; rw [v174]
  revert l; decide

theorem u2 (g : Fin 300) (l : Fin 3) : (words3 V0 (ix3 g l 2)).toInt = ((sc V0).cj g : ℕ) := by
  unfold words3; pointwise []; rw [v175, cellY, hV.cells.2]
  generalize (sc V0).cj g = a
  revert a; decide

theorem u3 (g : Fin 300) (l : Fin 3) : (words3 V0 (ix3 g l 3)).toInt = ((sc V0).ci g : ℕ) := by
  unfold words3; pointwise []; rw [v176, cellX, hV.cells.1]
  generalize (sc V0).ci g = a
  revert a; decide

theorem lands3 (g : Fin 300) (l : Fin 3) (b : Fin 16) (a : Fin 3) (j i : Fin 76) :
    scatter_S16x3x76x76_S300x3x4_S300x3_n_0123_0123_2.resultIdx? (ix2 g l) (words3 V0) = some (ix4 b a j i)
      ↔ b = 0 ∧ l = a ∧ (sc V0).cj g = j ∧ (sc V0).ci g = i := by
  rw [lands34]
  constructor
  · intro h
    have h0 := h 0; have h1 := h 1; have h2 := h 2; have h3 := h 3
    rw [u0 V0 hV] at h0; rw [u1 V0] at h1; rw [u2 V0 hV] at h2; rw [u3 V0 hV] at h3
    refine ⟨Fin.ext ?_, Fin.ext ?_, Fin.ext ?_, Fin.ext ?_⟩
    · exact (Int.ofNat.inj h0).symm
    · exact Int.ofNat.inj h1
    · exact Int.ofNat.inj h2
    · exact Int.ofNat.inj h3
  · rintro ⟨rfl, rfl, rfl, rfl⟩ x
    fin_cases x
    · exact u0 V0 hV g _
    · exact u1 V0 g _
    · exact u2 V0 hV g _
    · exact u3 V0 hV g _

/-- The word a box gives at an anchor: one where their overlap is at most a half. -/
def low : IVec S300x3 32 :=
  extui 32 (cmpf (F := Ideal) (φ := .f32) .ole (transpose S300x3 [1, 0] (show S3x300.Idx → Ideal .f32 from res_main_v94 V0) transposes_S3x300_S300x3_1_0) (broadcastInDim S300x3 ![] bcast_S_S300x3 (constant S_ .f32 0x3F000000#32))) natLt_1_32

omit hV in
theorem ov_any (g : Fin 300) (l : Fin 3) : (res_main_v94 V0 : Vec Ideal S3x300 .f32) (ix2 l g) = (sc V0).ov l g := by
  fin_cases l
  · exact ov0 V0 g
  · exact ov1 V0 g
  · exact ov2 V0 g

omit hV in
theorem low_eq (g : Fin 300) (l : Fin 3) : low V0 (ix2 g l) = if half < (sc V0).ov l g then 0#32 else 1#32 := by
  unfold low
  pointwise []
  rw [ov_any]
  show BitVec.setWidth 32 (BitVec.ofBool (decide ((sc V0).ov l g ≤ half))) = _
  by_cases h : half < (sc V0).ov l g
  · rw [if_pos h, decide_eq_false (not_le.mpr h)]; rfl
  · rw [if_neg h, decide_eq_true (not_lt.mp h)]; rfl

theorem noobjBit (b : Fin 16) (a : Fin 3) (j i : Fin 76) :
    (res_main_v320 V0 : IVec S16x3x76x76 1) (ix4 b a j i) = if (sc V0).noobj b a j i then 1#1 else 0#1 := by
  refine Eq.trans (show _ = IntOp.cmpi .ne (Host.scatter scatter_S16x3x76x76_S300x3x4_S300x3_n_0123_0123_2 IntOp.minsi
    (Host.scatter scatter_S16x3x76x76_S300x4_S300_n_0123_0123_1 (fun _ b => b) (broadcastInDim S16x3x76x76 ![] bcast_S_S16x3x76x76 (constantI S_ 32 1#32)) (words V0) (broadcastInDim S300 ![] bcast_S_S300 (constantI S_ 32 0#32)))
    (words3 V0) (low V0) (ix4 b a j i)) 0#32 from by unfold res_main_v320 words words3 low; rfl) ?_
  have hc := scatter_const V0 hV (broadcastInDim S16x3x76x76 ![] bcast_S_S16x3x76x76 (constantI S_ 32 1#32) : IVec S16x3x76x76 32)
    (broadcastInDim S300 ![] bcast_S_S300 (constantI S_ 32 0#32)) 0#32 (fun _ => rfl) b a j i
  rw [show (broadcastInDim S16x3x76x76 ![] bcast_S_S16x3x76x76 (constantI S_ 32 1#32) : IVec S16x3x76x76 32) (ix4 b a j i) = 1#32 from rfl] at hc
  rw [scatter_min _ _ _ _ (fun k => ?_) _ (by rw [hc]; split <;> simp), hc]
  · have key : (sc V0).noobj b a j i ↔ ¬(∃ k, scatter_S16x3x76x76_S300x3x4_S300x3_n_0123_0123_2.resultIdx? k (words3 V0) = some (ix4 b a j i)
        ∧ low V0 k = 0#32) ∧ ¬(sc V0).obj b a j i := by
      unfold Scene.noobj Scene.obj Scene.act
      constructor
      · intro h
        refine ⟨?_, ?_⟩
        · rintro ⟨k, hk, hl⟩
          obtain ⟨g, l, rfl⟩ := rank2 k
          rw [lands3 V0 hV] at hk
          rw [low_eq] at hl
          obtain ⟨hb, rfl, hj, hi⟩ := hk
          refine h ⟨hb, g, Or.inl ?_, hj, hi⟩
          by_contra hn
          rw [if_neg hn] at hl
          exact absurd hl (by decide)
        · rintro ⟨hb, g, ha, hj, hi⟩
          exact h ⟨hb, g, Or.inr ha, hj, hi⟩
      · rintro ⟨h1, h2⟩ ⟨hb, g, ha | ha, hj, hi⟩
        · refine h1 ⟨ix2 g a, (lands3 V0 hV g a b a j i).mpr ⟨hb, rfl, hj, hi⟩, ?_⟩
          rw [low_eq, if_pos ha]
        · exact h2 ⟨hb, g, ha, hj, hi⟩
    by_cases hn : (sc V0).noobj b a j i
    · rw [if_pos hn, if_neg (key.mp hn).1, if_neg (key.mp hn).2]; rfl
    · rw [if_neg hn]
      by_cases h1 : ∃ k, scatter_S16x3x76x76_S300x3x4_S300x3_n_0123_0123_2.resultIdx? k (words3 V0) = some (ix4 b a j i)
        ∧ low V0 k = 0#32
      · rw [if_pos h1]; rfl
      · rw [if_neg h1, if_pos (by by_contra h2; exact hn (key.mpr ⟨h1, h2⟩))]; rfl
  · obtain ⟨g, l, rfl⟩ := rank2 k
    rw [low_eq]; split <;> simp

end Cert.ReferenceIdeal.Val
-- ==== Proof.RefValue.lean ====
/- The reference's terms, read at a cell, and the loss they make. -/
module

public import proofs.«01_k».proof.Proof.RefMasks
public import proofs.«01_k».proof.Proof.Bits

@[expose] public section

set_option maxRecDepth 16384

noncomputable section

namespace Cert.ReferenceIdeal.Val

open Idealize.ShloMosaic Idealize.ShloMosaic.Pointwise Idealize.ShloMosaic.Routing Cert.ReferenceIdeal Cert.ReferenceIdeal.Gen
open Cert.ReferenceIdeal.Value Cert.Yolo
open scoped Classical

variable (V0 : Valuation τ sig (Elt Ideal)) (hV : BoxesOk V0)

theorem v1 (b : Fin 16) (a : Fin 3) (k : Fin 5) (j i : Fin 76) :
    (res_main_v1 V0 : Vec Ideal S16x3x76x76x85 .f32) (ix5 b a j i ⟨k.1, by omega⟩) = (sc V0).z b a k j i := by
  unfold res_main_v1; clean_types; pointwise []
  unfold sc Scene.of pred
  congr 1
  have : (⟨(a : ℕ) * 85 + (k : ℕ), by omega⟩ : Fin 255) = ⟨85 * (a : ℕ) + (k : ℕ), by omega⟩ := Fin.ext (by simp only; omega)
  exact congrArg (fun t => ix4 b t j i) this

theorem v29 (b : Fin 16) (a : Fin 3) (j i : Fin 76) :
    (res_main_v29 V0 : Vec Ideal S16x3x76x76 .f32) (ix4 b a j i) = Ideal.logistic ((sc V0).z b a 4 j i) := by
  unfold res_main_v29; clean_types; pointwise []
  exact congrArg Ideal.logistic (v1 V0 b a 4 j i)

/-- The object mask, the no-object mask, the confidence losses, the errors of the four coordinates and the count of object
    cells. -/
def maskObj : IVec S16x3x76x76 1 := res_main_v317 V0
def maskNoobj : IVec S16x3x76x76 1 := res_main_v320 V0
def confidence : FVec Ideal S16x3x76x76 .f32 := res_main_v380 V0
def errorX : FVec Ideal S16x3x76x76 .f32 := res_main_v337 V0
def errorY : FVec Ideal S16x3x76x76 .f32 := res_main_v342 V0
def errorW : FVec Ideal S16x3x76x76 .f32 := res_main_v351 V0
def errorH : FVec Ideal S16x3x76x76 .f32 := res_main_v356 V0
def countObj : FVec Ideal S_ .f32 := res_main_v336 V0

include hV

theorem v323 (b : Fin 16) (a : Fin 3) (j i : Fin 76) (h : (sc V0).obj b a j i) :
    (res_main_v323 V0 : Vec Ideal S16x3x76x76 .f32) (ix4 b a j i) = (sc V0).x ((sc V0).holder a j i) * side := by
  refine Eq.trans (congrArg (fun t => t * side) (scatter_box V0 hV _ _ b a j i h)) ?_
  exact congrArg (fun t => t * side) (boxX V0 _)

theorem v325 (b : Fin 16) (a : Fin 3) (j i : Fin 76) (h : (sc V0).obj b a j i) :
    (res_main_v325 V0 : Vec Ideal S16x3x76x76 .f32) (ix4 b a j i) = (sc V0).y ((sc V0).holder a j i) * side := by
  refine Eq.trans (congrArg (fun t => t * side) (scatter_box V0 hV _ _ b a j i h)) ?_
  exact congrArg (fun t => t * side) (boxY V0 _)

theorem v337 (b : Fin 16) (a : Fin 3) (j i : Fin 76) (h : (sc V0).obj b a j i) :
    (res_main_v337 V0 : Vec Ideal S16x3x76x76 .f32) (ix4 b a j i)
      = Ideal.logistic ((sc V0).z b a 0 j i) - frac ((sc V0).x ((sc V0).holder a j i)) := by
  unfold res_main_v337; clean_types; pointwise []
  rw [v323 V0 hV b a j i h]
  exact congrArg (fun t => Ideal.logistic t - frac ((sc V0).x ((sc V0).holder a j i))) (v1 V0 b a 0 j i)

theorem v342 (b : Fin 16) (a : Fin 3) (j i : Fin 76) (h : (sc V0).obj b a j i) :
    (res_main_v342 V0 : Vec Ideal S16x3x76x76 .f32) (ix4 b a j i)
      = Ideal.logistic ((sc V0).z b a 1 j i) - frac ((sc V0).y ((sc V0).holder a j i)) := by
  unfold res_main_v342; clean_types; pointwise []
  rw [v325 V0 hV b a j i h]
  exact congrArg (fun t => Ideal.logistic t - frac ((sc V0).y ((sc V0).holder a j i))) (v1 V0 b a 1 j i)

theorem v351 (b : Fin 16) (a : Fin 3) (j i : Fin 76) (h : (sc V0).obj b a j i) :
    (res_main_v351 V0 : Vec Ideal S16x3x76x76 .f32) (ix4 b a j i)
      = (sc V0).z b a 2 j i - Ideal.log (Ideal.div ((sc V0).w ((sc V0).holder a j i)) (anchorW a)) := by
  unfold res_main_v351; clean_types; pointwise []
  have hs := scatter_box V0 hV (broadcastInDim S16x3x76x76 ![] bcast_S_S16x3x76x76 (constant (F := Ideal) S_ .f32 0#32))
    (show S300.Idx → Ideal .f32 from res_main_v37 V0) b a j i h
  unfold words at hs
  rw [show (Ideal.ofBits FTy.f32 (lit0 (S3.rowMajor (ix1 a)))) = anchorW a by fin_cases a <;> rfl]
  rw [objBit V0 hV, if_pos h]
  refine Eq.trans (congrArg (fun t => _ - Ideal.log (Ideal.div t (anchorW a))) hs) ?_
  refine congrArg₂ (fun x y => x - Ideal.log (Ideal.div y (anchorW a))) (v1 V0 b a 2 j i) (boxW V0 _)

theorem v356 (b : Fin 16) (a : Fin 3) (j i : Fin 76) (h : (sc V0).obj b a j i) :
    (res_main_v356 V0 : Vec Ideal S16x3x76x76 .f32) (ix4 b a j i)
      = (sc V0).z b a 3 j i - Ideal.log (Ideal.div ((sc V0).h ((sc V0).holder a j i)) (anchorH a)) := by
  unfold res_main_v356; clean_types; pointwise []
  have hs := scatter_box V0 hV (broadcastInDim S16x3x76x76 ![] bcast_S_S16x3x76x76 (constant (F := Ideal) S_ .f32 0#32))
    (show S300.Idx → Ideal .f32 from res_main_v39 V0) b a j i h
  unfold words at hs
  rw [show (Ideal.ofBits FTy.f32 (lit1 (S3.rowMajor (ix1 a)))) = anchorH a by fin_cases a <;> rfl]
  rw [objBit V0 hV, if_pos h]
  refine Eq.trans (congrArg (fun t => _ - Ideal.log (Ideal.div t (anchorH a))) hs) ?_
  refine congrArg₂ (fun x y => x - Ideal.log (Ideal.div y (anchorH a))) (v1 V0 b a 3 j i) (boxH V0 _)

theorem v380 (b : Fin 16) (a : Fin 3) (j i : Fin 76)  :
    (res_main_v380 V0 : Vec Ideal S16x3x76x76 .f32) (ix4 b a j i)
      = if (sc V0).obj b a j i then -logP ((sc V0).z b a 4 j i) else -log1mP ((sc V0).z b a 4 j i) := by
  unfold res_main_v380; clean_types; pointwise []
  rw [objFloat V0 hV, v29 V0]
  show -(ind ((sc V0).obj b a j i) * logP ((sc V0).z b a 4 j i) + (1 - ind ((sc V0).obj b a j i)) * log1mP ((sc V0).z b a 4 j i)) = _
  by_cases h : (sc V0).obj b a j i
  · rw [if_pos h, ind_true h, one_mul, show (1 : EReal) - 1 = 0 from by rw [← EReal.coe_one, ← EReal.coe_sub, sub_self, EReal.coe_zero], zero_mul, add_zero]
  · rw [if_neg h, ind_false h, zero_mul, zero_add, sub_zero, one_mul]

omit hV in
/-- A sum over all four axes. -/
theorem sumAll (x : FVec Ideal S16x3x76x76 .f32) (u : S_.Idx) :
    Host.reduceAdd x (constant (F := Ideal) S_ .f32 0x00000000#32) reducesTo_S16x3x76x76_S_d0_1_2_3 h_S_ u
      = ∑ b, ∑ a, ∑ j, ∑ i, x (ix4 b a j i) := by
  rw [Host.reduceAdd_apply]
  show Ideal.hostReduceAdd _ x (Ideal.ofBits .f32 0x00000000#32) u = _
  rw [show Ideal.ofBits .f32 0x00000000#32 = 0 by simp [Ideal.ofBits, Ideal.ieee]]
  unfold Ideal.hostReduceAdd
  rw [zero_add, Finset.filter_true_of_mem fun i _ => funext fun k => k.elim0, sum_idx4]

omit hV in
theorem one_word (u : S_.Idx) : (constant (F := Ideal) S_ .f32 0x3F800000#32) u = 1 := Ideal.ofBits_one_f32
omit hV in
theorem float_of_bit (p : Prop) (x : BitVec 1) (h : x = if p then 1#1 else 0#1) :
    FloatOps.uitofp (F := Ideal) .f32 x = ind p := by
  subst h
  show ((((if p then 1#1 else 0#1 : BitVec 1)).toNat : ℝ) : EReal) = ind p
  unfold ind
  split <;> simp

omit hV in
theorem max_at (x y : FVec Ideal S_ .f32) (u : S_.Idx) : maximumf x y u = max (x u) (y u) := rfl
omit hV in
theorem div_at (x y : FVec Ideal S_ .f32) (u : S_.Idx) : Host.divf x y u = Ideal.div (x u) (y u) := rfl
omit hV in
theorem float_at (x : IVec S16x3x76x76 1) (k : S16x3x76x76.Idx) :
    uitofp (F := Ideal) .f32 x k = FloatOps.uitofp (F := Ideal) .f32 (x k) := rfl
omit hV in
/-- The count of the cells of a mask, at least one. -/
theorem count (mask : IVec S16x3x76x76 1) (p : Fin 16 → Fin 3 → Fin 76 → Fin 76 → Prop)
    (hm : ∀ b a j i, mask (ix4 b a j i) = if p b a j i then 1#1 else 0#1) (u : S_.Idx) :
    maximumf (Host.reduceAdd (uitofp (F := Ideal) .f32 mask) (constant (F := Ideal) S_ .f32 0x00000000#32) reducesTo_S16x3x76x76_S_d0_1_2_3 h_S_)
      (constant (F := Ideal) S_ .f32 0x3F800000#32) u = max (∑ b, ∑ a, ∑ j, ∑ i, ind (p b a j i)) 1 := by
  rw [max_at, sumAll, one_word]
  refine congrArg (fun t => max t (1 : EReal)) (Finset.sum_congr rfl fun b _ => Finset.sum_congr rfl fun a _ =>
    Finset.sum_congr rfl fun j _ => Finset.sum_congr rfl fun i _ => ?_)
  rw [float_at]
  exact float_of_bit _ _ (hm b a j i)

theorem v336 (u : S_.Idx) : (res_main_v336 V0 : Vec Ideal S_ .f32) u = (sc V0).objCount := by
  unfold res_main_v336
  exact count (maskObj V0) _ (objBit V0 hV) u

theorem noobjCount (u : S_.Idx) :
    maximumf (Host.reduceAdd (uitofp (F := Ideal) .f32 (maskNoobj V0)) (constant (F := Ideal) S_ .f32 0x00000000#32) reducesTo_S16x3x76x76_S_d0_1_2_3 h_S_)
      (constant (F := Ideal) S_ .f32 0x3F800000#32) u = max (∑ b, ∑ a, ∑ j, ∑ i, ind ((sc V0).noobj b a j i)) 1 :=
  count (maskNoobj V0) _ (noobjBit V0 hV) u

omit hV in
/-- A masked sum over the cells. -/
theorem masked (mask : IVec S16x3x76x76 1) (x : FVec Ideal S16x3x76x76 .f32) (p : Fin 16 → Fin 3 → Fin 76 → Fin 76 → Prop)
    (f : Fin 16 → Fin 3 → Fin 76 → Fin 76 → EReal)
    (hm : ∀ b a j i, mask (ix4 b a j i) = if p b a j i then 1#1 else 0#1) (hx : ∀ b a j i, p b a j i → x (ix4 b a j i) = f b a j i)
    (u : S_.Idx) :
    Host.reduceAdd (select mask x (broadcastInDim S16x3x76x76 ![] bcast_S_S16x3x76x76 (id (constant (F := Ideal) S_ .f32 0x00000000#32))))
        (constant (F := Ideal) S_ .f32 0x00000000#32) reducesTo_S16x3x76x76_S_d0_1_2_3 h_S_ u
      = ∑ b, ∑ a, ∑ j, ∑ i, if p b a j i then f b a j i else 0 := by
  refine (sumAll _ u).trans (Finset.sum_congr rfl fun b _ => Finset.sum_congr rfl fun a _ =>
    Finset.sum_congr rfl fun j _ => Finset.sum_congr rfl fun i _ => ?_)
  show (if mask (ix4 b a j i) = 1#1 then x (ix4 b a j i) else Ideal.ofBits .f32 0x00000000#32) = _
  rw [hm, show Ideal.ofBits .f32 0x00000000#32 = 0 by simp [Ideal.ofBits, Ideal.ieee]]
  by_cases h : p b a j i
  · rw [if_pos h, if_pos h, if_pos rfl, hx b a j i h]
  · rw [if_neg h, if_neg h, if_neg (by decide)]

/-- One mean over the object cells. -/
theorem mean (x : FVec Ideal S16x3x76x76 .f32) (f : Fin 3 → Fin 76 → Fin 76 → Fin 300 → EReal)
    (hx : ∀ b a j i, (sc V0).obj b a j i → x (ix4 b a j i) = f a j i ((sc V0).holder a j i)) (u : S_.Idx) :
    Host.divf (Host.reduceAdd (select (maskObj V0) x (broadcastInDim S16x3x76x76 ![] bcast_S_S16x3x76x76 (id (constant (F := Ideal) S_ .f32 0x00000000#32))))
        (constant (F := Ideal) S_ .f32 0x00000000#32) reducesTo_S16x3x76x76_S_d0_1_2_3 h_S_) (countObj V0) u
      = Ideal.div ((sc V0).objSum f) (sc V0).objCount :=
  (div_at _ _ u).trans <| congrArg₂ Ideal.div (masked (maskObj V0) x (sc V0).obj (fun _ a j i => f a j i ((sc V0).holder a j i)) (objBit V0 hV) hx u) (v336 V0 hV u)

omit hV in
theorem sq_at (x : FVec Ideal S16x3x76x76 .f32) (k : S16x3x76x76.Idx) : mulf x x k = Yolo.sq (x k) := rfl

/-- The mean of an error's squares over the object cells. -/
theorem mean_sq (x : FVec Ideal S16x3x76x76 .f32) (f : Fin 3 → Fin 76 → Fin 76 → Fin 300 → EReal)
    (hx : ∀ b a j i, (sc V0).obj b a j i → x (ix4 b a j i) = f a j i ((sc V0).holder a j i)) (u : S_.Idx) :
    Host.divf (Host.reduceAdd (select (maskObj V0) (mulf x x) (broadcastInDim S16x3x76x76 ![] bcast_S_S16x3x76x76 (id (constant (F := Ideal) S_ .f32 0x00000000#32))))
        (constant (F := Ideal) S_ .f32 0x00000000#32) reducesTo_S16x3x76x76_S_d0_1_2_3 h_S_) (countObj V0) u
      = Ideal.div ((sc V0).objSum fun a j i g => Yolo.sq (f a j i g)) (sc V0).objCount :=
  mean V0 hV (mulf x x) (fun a j i g => Yolo.sq (f a j i g)) (fun b a j i h => by rw [sq_at, hx b a j i h]) u

omit hV in
theorem sum_at (a b c d e f k l : FVec Ideal S_ .f32) (u : S_.Idx) :
    addf (addf (addf (addf (addf a b) c) d) (mulf k e)) (mulf l f) u = a u + b u + c u + d u + k u * e u + l u * f u := rfl

omit hV in
theorem hundred_word (u : S_.Idx) : (constant (F := Ideal) S_ .f32 0x42C80000#32) u = hundred := rfl

theorem noobj_mean (u : S_.Idx) :
    Host.divf (Host.reduceAdd (select (maskNoobj V0) (confidence V0) (broadcastInDim S16x3x76x76 ![] bcast_S_S16x3x76x76 (id (constant (F := Ideal) S_ .f32 0x00000000#32))))
        (constant (F := Ideal) S_ .f32 0x00000000#32) reducesTo_S16x3x76x76_S_d0_1_2_3 h_S_)
      (maximumf (Host.reduceAdd (uitofp (F := Ideal) .f32 (maskNoobj V0)) (constant (F := Ideal) S_ .f32 0x00000000#32) reducesTo_S16x3x76x76_S_d0_1_2_3 h_S_)
      (constant (F := Ideal) S_ .f32 0x3F800000#32)) u
      = Ideal.div (∑ b, ∑ a, ∑ j, ∑ i, if (sc V0).noobj b a j i then -log1mP ((sc V0).z b a 4 j i) else 0)
        (max (∑ b, ∑ a, ∑ j, ∑ i, ind ((sc V0).noobj b a j i)) 1) := by
  refine (div_at _ _ u).trans <| congrArg₂ Ideal.div (masked (maskNoobj V0) (confidence V0) (sc V0).noobj (fun b a j i => -log1mP ((sc V0).z b a 4 j i)) (noobjBit V0 hV) (fun b a j i h => ?_) u) (noobjCount V0 hV u)
  refine (v380 V0 hV b a j i).trans (if_neg ?_)
  rintro ⟨hb, g, ha, hc⟩
  exact h ⟨hb, g, Or.inr ha, hc⟩

/-- The loss. -/
theorem loss (u : S_.Idx) :
    addf (addf (addf (addf (addf
        (Host.divf (Host.reduceAdd (select (maskObj V0) (mulf (errorX V0) (errorX V0)) (broadcastInDim S16x3x76x76 ![] bcast_S_S16x3x76x76 (id (constant (F := Ideal) S_ .f32 0x00000000#32)))) (constant (F := Ideal) S_ .f32 0x00000000#32) reducesTo_S16x3x76x76_S_d0_1_2_3 h_S_) (countObj V0))
        (Host.divf (Host.reduceAdd (select (maskObj V0) (mulf (errorY V0) (errorY V0)) (broadcastInDim S16x3x76x76 ![] bcast_S_S16x3x76x76 (id (constant (F := Ideal) S_ .f32 0x00000000#32)))) (constant (F := Ideal) S_ .f32 0x00000000#32) reducesTo_S16x3x76x76_S_d0_1_2_3 h_S_) (countObj V0)))
        (Host.divf (Host.reduceAdd (select (maskObj V0) (mulf (errorW V0) (errorW V0)) (broadcastInDim S16x3x76x76 ![] bcast_S_S16x3x76x76 (id (constant (F := Ideal) S_ .f32 0x00000000#32)))) (constant (F := Ideal) S_ .f32 0x00000000#32) reducesTo_S16x3x76x76_S_d0_1_2_3 h_S_) (countObj V0)))
        (Host.divf (Host.reduceAdd (select (maskObj V0) (mulf (errorH V0) (errorH V0)) (broadcastInDim S16x3x76x76 ![] bcast_S_S16x3x76x76 (id (constant (F := Ideal) S_ .f32 0x00000000#32)))) (constant (F := Ideal) S_ .f32 0x00000000#32) reducesTo_S16x3x76x76_S_d0_1_2_3 h_S_) (countObj V0)))
        (mulf (constant (F := Ideal) S_ .f32 0x3F800000#32) (Host.divf (Host.reduceAdd (select (maskObj V0) (confidence V0) (broadcastInDim S16x3x76x76 ![] bcast_S_S16x3x76x76 (id (constant (F := Ideal) S_ .f32 0x00000000#32)))) (constant (F := Ideal) S_ .f32 0x00000000#32) reducesTo_S16x3x76x76_S_d0_1_2_3 h_S_) (countObj V0))))
        (mulf (constant (F := Ideal) S_ .f32 0x42C80000#32) (Host.divf (Host.reduceAdd (select (maskNoobj V0) (confidence V0) (broadcastInDim S16x3x76x76 ![] bcast_S_S16x3x76x76 (id (constant (F := Ideal) S_ .f32 0x00000000#32)))) (constant (F := Ideal) S_ .f32 0x00000000#32) reducesTo_S16x3x76x76_S_d0_1_2_3 h_S_)
          (maximumf (Host.reduceAdd (uitofp (F := Ideal) .f32 (maskNoobj V0)) (constant (F := Ideal) S_ .f32 0x00000000#32) reducesTo_S16x3x76x76_S_d0_1_2_3 h_S_) (constant (F := Ideal) S_ .f32 0x3F800000#32)))) u
      = (sc V0).referenceLoss := by
  have zero : ∀ {b a j i}, (sc V0).obj b a j i → b = 0 := fun h => h.1
  rw [sum_at, one_word, one_mul, hundred_word, noobj_mean V0 hV u,
    mean_sq V0 hV (errorX V0) (fun a j i g => Ideal.logistic ((sc V0).z 0 a 0 j i) - frac ((sc V0).x g))
      (fun b a j i h => by obtain rfl := zero h; exact v337 V0 hV _ a j i h) u,
    mean_sq V0 hV (errorY V0) (fun a j i g => Ideal.logistic ((sc V0).z 0 a 1 j i) - frac ((sc V0).y g))
      (fun b a j i h => by obtain rfl := zero h; exact v342 V0 hV _ a j i h) u,
    mean_sq V0 hV (errorW V0) (fun a j i g => (sc V0).z 0 a 2 j i - Ideal.log (Ideal.div ((sc V0).w g) (anchorW a)))
      (fun b a j i h => by obtain rfl := zero h; exact v351 V0 hV _ a j i h) u,
    mean_sq V0 hV (errorH V0) (fun a j i g => (sc V0).z 0 a 3 j i - Ideal.log (Ideal.div ((sc V0).h g) (anchorH a)))
      (fun b a j i h => by obtain rfl := zero h; exact v356 V0 hV _ a j i h) u,
    mean V0 hV (confidence V0) (fun a j i _ => -logP ((sc V0).z 0 a 4 j i))
      (fun b a j i h => by obtain rfl := zero h; exact (v380 V0 hV _ a j i).trans (if_pos h)) u]
  rfl

end Cert.ReferenceIdeal.Val
-- ==== Proof.RefRun.lean ====
/- What a run of the reference leaves: its loss. -/
module

public import proofs.«01_k».proof.Proof.RefValue

@[expose] public section

set_option maxRecDepth 16384

noncomputable section

namespace Cert.ReferenceIdeal.Val

open Idealize.ShloMosaic Idealize.ShloMosaic.TcCoe Idealize.SL.Sem Idealize.ShloMosaic.StableHlo
open Idealize.ShloMosaic.Pointwise Cert.ReferenceIdeal Cert.ReferenceIdeal.Gen
open Cert.ReferenceIdeal.Value Cert.Yolo

/-- The reference runs from every memory whose boxes are in image 0 with their centres in the grid, leaves its loss in its
    result, and leaves its arguments as they were. -/
theorem run (m : (ℓ : Loc nD τ sig) → Buf (Elt Ideal) ℓ) (ρ : Dev nD → PrngReg)
    (h : ∀ c : Dev nD, BoxesOk (launchContents m c)) :
    θ_run defs (onTc (τ := τ) (main (F := Ideal))) ⟨m, fun _ => 0, ρ⟩ fun r => ∀ c : Dev nD,
      r.2.mem (c.tc.loc main_v396) = (fun _ => (sc (launchContents m c)).referenceLoss)
      ∧ r.2.mem (c.tc.loc main_arg0) = m (c.tc.loc main_arg0)
      ∧ r.2.mem (c.tc.loc main_arg1) = m (c.tc.loc main_arg1) := by
  refine (θ_run defs _ _).mono (fun r hr c => ?_) (Cert.ReferenceIdeal.Value.run m ρ)
  obtain ⟨h0, h1, h2⟩ := hr c
  refine ⟨h0.trans ?_, h1, h2⟩
  funext u
  have hV := h c
  exact loss (launchContents m c) hV u

end Cert.ReferenceIdeal.Val
-- ==== Proof.Equal.lean ====
/- The kernel's form of the loss and the reference's are one number.

   A sum over the boxes that counts each cell once is a sum over the cells; the five means over the object cells have one
   denominator; and what all cells give less what the excluded cells give is what the no-object cells give, since the
   floored logarithms are real numbers. -/
module

public import proofs.«01_k».proof.Proof.RefMasks
public import proofs.«01_k».proof.Proof.Bits

@[expose] public section

noncomputable section

namespace Cert.Yolo

open Idealize.ShloMosaic
open scoped Classical

/-- Choices under one condition, however it is decided. -/
theorem ite_iff {p q : Prop} (dp : Decidable p) (dq : Decidable q) (h : p ↔ q) (x y : EReal) :
    @ite _ p dp x y = @ite _ q dq x y := by
  by_cases hp : p
  · rw [if_pos hp, if_pos (h.mp hp)]
  · rw [if_neg hp, if_neg fun hq => hp (h.mpr hq)]

/-! ## Real numbers among the extended -/

theorem ind_real (p : Prop) : ∃ r : ℝ, 0 ≤ r ∧ ind p = (r : EReal) := by
  by_cases h : p
  · exact ⟨1, zero_le_one, by rw [ind_true h]; rfl⟩
  · exact ⟨0, le_rfl, by rw [ind_false h]; rfl⟩

theorem sum_real {ι : Type} [Fintype ι] (f : ι → EReal) (h : ∀ i, ∃ r : ℝ, 0 ≤ r ∧ f i = (r : EReal)) :
    ∃ r : ℝ, 0 ≤ r ∧ ∑ i, f i = (r : EReal) := by
  choose g hg hf using h
  refine ⟨∑ i, g i, Finset.sum_nonneg fun i _ => hg i, ?_⟩
  rw [Finset.sum_congr rfl fun i _ => hf i]
  induction (Finset.univ : Finset ι) using Finset.induction with
  | empty => simp
  | insert a s ha ih => rw [Finset.sum_insert ha, Finset.sum_insert ha, ih, EReal.coe_add]

/-- The greater of a count and one is a positive real number. -/
theorem max_real {x : EReal} (h : ∃ r : ℝ, 0 ≤ r ∧ x = (r : EReal)) : ∃ r : ℝ, 0 < r ∧ max x 1 = (r : EReal) := by
  obtain ⟨r, _, rfl⟩ := h
  exact ⟨max r 1, lt_of_lt_of_le one_pos (le_max_right _ _), (EReal.coe_strictMono.monotone.map_max (a := r) (b := 1)).symm⟩

theorem logistic_real (z : EReal) : ∃ r : ℝ, Ideal.logistic z = (r : EReal) := by
  induction z with
  | bot => exact ⟨0, by simp⟩
  | top => exact ⟨1, by simp⟩
  | coe r => exact ⟨_, Ideal.logistic_coe r⟩

theorem log_real_ne_top (r : ℝ) : Ideal.log (r : EReal) ≠ ⊤ := by
  rw [Ideal.log_coe]
  split
  · exact bot_ne_top
  · exact EReal.coe_ne_top _

/-- The floored logarithm is a real number: at least -100, and the logarithm of a real number. -/
theorem log1mP_real (z : EReal) : ∃ r : ℝ, -log1mP z = (r : EReal) := by
  obtain ⟨t, ht, _⟩ := tiny_eq
  obtain ⟨l, hl⟩ := logistic_real z
  have harg : ∃ r : ℝ, (if Ideal.logistic z < 1 then 1 - Ideal.logistic z else tiny) = (r : EReal) := by
    split
    · exact ⟨1 - l, by rw [hl]; rfl⟩
    · exact ⟨t, ht⟩
  obtain ⟨r, hr⟩ := harg
  have hb : log1mP z ≠ ⊥ := by
    unfold log1mP
    rw [lo_eq]
    exact ne_of_gt (lt_of_lt_of_le (EReal.bot_lt_coe _) (le_max_right _ _))
  have htop : log1mP z ≠ ⊤ := by
    unfold log1mP
    rw [hr, lo_eq]
    exact ne_of_lt (max_lt (lt_top_iff_ne_top.mpr (log_real_ne_top r)) (EReal.coe_lt_top _))
  exact ⟨-(log1mP z).toReal, by rw [EReal.coe_neg, EReal.coe_toReal htop hb]⟩

/-- Division by a positive real number goes through a sum. -/
theorem div_add (x y n : EReal) (hn : ∃ r : ℝ, 0 < r ∧ n = (r : EReal)) :
    Ideal.div (x + y) n = Ideal.div x n + Ideal.div y n := by
  obtain ⟨r, hr, rfl⟩ := hn
  rw [Ideal.div_coe hr.ne', Ideal.div_coe hr.ne', Ideal.div_coe hr.ne']
  exact EReal.right_distrib_of_nonneg_of_ne_top (EReal.coe_nonneg.mpr (by positivity)) (EReal.coe_ne_top _) _ _

theorem mul_div (k x n : EReal) (hn : ∃ r : ℝ, 0 < r ∧ n = (r : EReal)) :
    Ideal.div (k * x) n = k * Ideal.div x n := by
  obtain ⟨r, hr, rfl⟩ := hn
  rw [Ideal.div_coe hr.ne', Ideal.div_coe hr.ne', mul_assoc]

theorem ind_mul_add (p : Prop) (x y : EReal) : ind p * (x + y) = ind p * x + ind p * y := by
  by_cases h : p
  · rw [ind_true h, one_mul, one_mul, one_mul]
  · rw [ind_false h, zero_mul, zero_mul, zero_mul, add_zero]

namespace Scene

variable (s : Scene)

/-! ## Sums over boxes and sums over cells -/

/-- At most one box with a property: a sum over the boxes of one number is that number or zero. -/
theorem sum_one (R : Fin 300 → Prop) (huniq : ∀ g h, R g → R h → g = h) (v : EReal) :
    (∑ g, if R g then v else 0) = if ∃ g, R g then v else 0 := by
  by_cases h : ∃ g, R g
  · rw [if_pos h]
    obtain ⟨g, hg⟩ := h
    rw [Finset.sum_eq_single g (fun k _ hk => if_neg fun hR => hk (huniq k g hR hg)) (fun hh => absurd (Finset.mem_univ g) hh),
      if_pos hg]
  · rw [if_neg h]
    exact Finset.sum_eq_zero fun g _ => if_neg fun hg => h ⟨g, hg⟩

/-- Boxes that have a property and lie in distinct cells: a sum over them is a sum over their cells. -/
theorem sum_boxes (R : Fin 300 → Prop) (huniq : ∀ g h, R g → R h → s.cj g = s.cj h → s.ci g = s.ci h → g = h)
    (F : Fin 76 → Fin 76 → EReal) :
    ∑ g, ind (R g) * F (s.cj g) (s.ci g) = ∑ j, ∑ i, if ∃ g, R g ∧ s.cj g = j ∧ s.ci g = i then F j i else 0 := by
  have spread : ∀ g, ind (R g) * F (s.cj g) (s.ci g) = ∑ j, ∑ i, if R g ∧ s.cj g = j ∧ s.ci g = i then F j i else 0 := by
    intro g
    rw [Finset.sum_eq_single (s.cj g) (fun j _ hj => Finset.sum_eq_zero fun i _ => if_neg fun h => hj h.2.1.symm)
        (fun hh => absurd (Finset.mem_univ _) hh),
      Finset.sum_eq_single (s.ci g) (fun i _ hi => if_neg fun h => hi h.2.2.symm) (fun hh => absurd (Finset.mem_univ _) hh)]
    by_cases h : R g
    · rw [ind_true h, one_mul, if_pos ⟨h, rfl, rfl⟩]
    · rw [ind_false h, zero_mul, if_neg fun hh => h hh.1]
  rw [Finset.sum_congr rfl fun g _ => spread g, Finset.sum_comm]
  refine Finset.sum_congr rfl fun j _ => ?_
  rw [Finset.sum_comm]
  refine Finset.sum_congr rfl fun i _ => ?_
  refine Eq.trans (Finset.sum_congr rfl fun g _ => ite_iff _ _ Iff.rfl _ _) ((sum_one (fun g => R g ∧ s.cj g = j ∧ s.ci g = i) (fun g h hg hh => huniq g h hg.1 hh.1 (hg.2.1.trans hh.2.1.symm) (hg.2.2.trans hh.2.2.symm)) (F j i)).trans (ite_iff _ _ Iff.rfl _ _))

/-- Of the boxes with one anchor and cell at most one is the last. -/
theorem win_unique (a : Fin 3) (g h : Fin 300) (hg : s.anchor g = a ∧ s.last g) (hh : s.anchor h = a ∧ s.last h)
    (hj : s.cj g = s.cj h) (hi : s.ci g = s.ci h) : g = h := by
  rw [← s.holder_of_last hg.2, ← s.holder_of_last hh.2, hg.1, hh.1, hj, hi]

/-- Of the boxes that take one cell out at one anchor at most one is the first. -/
theorem first_unique (a : Fin 3) (g h : Fin 300) (hg : s.first a g) (hh : s.first a h)
    (hj : s.cj g = s.cj h) (hi : s.ci g = s.ci h) : g = h := by
  rcases lt_trichotomy g h with hlt | he | hlt
  · exact absurd ⟨g, hlt, ⟨hj.symm, hi.symm⟩, hg.1⟩ hh.2
  · exact he
  · exact absurd ⟨h, hlt, ⟨hj, hi⟩, hh.1⟩ hg.2

/-- A cell has a last box with an anchor where it has any. -/
theorem win_iff (a : Fin 3) (j i : Fin 76) :
    (∃ g, (s.anchor g = a ∧ s.last g) ∧ s.cj g = j ∧ s.ci g = i) ↔ ∃ g, s.anchor g = a ∧ s.cj g = j ∧ s.ci g = i := by
  constructor
  · rintro ⟨g, ⟨ha, _⟩, hc⟩; exact ⟨g, ha, hc⟩
  · intro h
    obtain ⟨g, ⟨ha, hc⟩, hl⟩ := s.exists_last h
    exact ⟨g, ⟨ha, hl⟩, hc⟩

/-- A cell has a first box that takes it out where it has any. -/
theorem first_iff (a : Fin 3) (j i : Fin 76) :
    (∃ g, s.first a g ∧ s.cj g = j ∧ s.ci g = i) ↔ ∃ g, s.act a g ∧ s.cj g = j ∧ s.ci g = i := by
  constructor
  · rintro ⟨g, ⟨ha, _⟩, hc⟩; exact ⟨g, ha, hc⟩
  · rintro ⟨g, hg⟩
    let T : Finset (Fin 300) := Finset.univ.filter fun g => s.act a g ∧ s.cj g = j ∧ s.ci g = i
    have hT : T.Nonempty := ⟨g, by simpa [T] using hg⟩
    have hm : s.act a (T.min' hT) ∧ s.cj (T.min' hT) = j ∧ s.ci (T.min' hT) = i := by simpa [T] using T.min'_mem hT
    refine ⟨T.min' hT, ⟨hm.1, ?_⟩, hm.2⟩
    rintro ⟨h, hlt, hs, ha⟩
    have : h ∈ T := by
      simp only [T, Finset.mem_filter, Finset.mem_univ, true_and]
      exact ⟨ha, hs.1.symm.trans hm.2.1, hs.2.symm.trans hm.2.2⟩
    exact absurd (T.min'_le h this) (not_le.mpr hlt)

/-- What only image 0 gives. -/
theorem sum_image (q : Fin 16 → Fin 3 → Fin 76 → Fin 76 → Prop) (p : Fin 3 → Fin 76 → Fin 76 → Prop)
    (hq : ∀ b a j i, q b a j i ↔ b = 0 ∧ p a j i) (F : Fin 3 → Fin 76 → Fin 76 → EReal) :
    (∑ b : Fin 16, ∑ a, ∑ j, ∑ i, if q b a j i then F a j i else 0) = ∑ a, ∑ j, ∑ i, if p a j i then F a j i else 0 := by
  rw [Finset.sum_eq_single (0 : Fin 16) (fun b _ hb => Finset.sum_eq_zero fun a _ => Finset.sum_eq_zero fun j _ =>
    Finset.sum_eq_zero fun i _ => if_neg fun h => hb ((hq b a j i).mp h).1) (fun hh => absurd (Finset.mem_univ _) hh)]
  refine Finset.sum_congr rfl fun a _ => Finset.sum_congr rfl fun j _ => Finset.sum_congr rfl fun i _ => ?_
  by_cases h : p a j i
  · rw [if_pos h, if_pos ((hq _ _ _ _).mpr ⟨rfl, h⟩)]
  · rw [if_neg h, if_neg fun hh => h ((hq _ _ _ _).mp hh).2]

/-- A cell that some box takes out of the no-object loss. -/
def taken (b : Fin 16) (a : Fin 3) (j i : Fin 76) : Prop := b = 0 ∧ ∃ g, s.act a g ∧ s.cj g = j ∧ s.ci g = i

/-- A sum over the object cells is the sum over the counted boxes. -/
theorem objSum_eq (f : Fin 3 → Fin 76 → Fin 76 → Fin 300 → EReal) :
    s.objSum f = ∑ a, ∑ g, s.win a g * f a (s.cj g) (s.ci g) g := by
  refine (sum_image s.obj (fun a j i => ∃ g, s.anchor g = a ∧ s.cj g = j ∧ s.ci g = i) (fun _ _ _ _ => Iff.rfl) (fun a j i => f a j i (s.holder a j i))).trans
    (Finset.sum_congr rfl fun a _ => ?_)
  have e : ∀ g, s.win a g * f a (s.cj g) (s.ci g) g
      = ind (s.anchor g = a ∧ s.last g) * (fun j i => f a j i (s.holder a j i)) (s.cj g) (s.ci g) := by
    intro g
    unfold win
    by_cases h : s.anchor g = a ∧ s.last g
    · obtain ⟨rfl, hl⟩ := h
      show _ = _ * f (s.anchor g) (s.cj g) (s.ci g) (s.holder (s.anchor g) (s.cj g) (s.ci g))
      rw [s.holder_of_last hl]
    · rw [ind_false h, zero_mul, zero_mul]
  rw [Finset.sum_congr rfl fun g _ => e g]
  refine Eq.trans ?_ (s.sum_boxes (fun g => s.anchor g = a ∧ s.last g) (s.win_unique a) (fun j i => f a j i (s.holder a j i))).symm
  refine Finset.sum_congr rfl fun j _ => Finset.sum_congr rfl fun i _ => ?_
  exact ite_iff _ _ (s.win_iff a j i).symm _ _

/-- The count of object cells is the count of the boxes counted. -/
theorem objCount_eq : s.objCount = max (∑ a, ∑ g, s.win a g) 1 := by
  unfold objCount
  congr 1
  refine (s.objSum_eq fun _ _ _ _ => 1).trans ?_
  simp only [mul_one]

/-- A sum over the cells taken out of the no-object loss is the sum over the first boxes that take them out. -/
theorem excluded_eq (F : Fin 3 → Fin 76 → Fin 76 → EReal) :
    (∑ b : Fin 16, ∑ a, ∑ j, ∑ i, if s.taken b a j i then F a j i else 0)
      = ∑ a, ∑ g, ind (s.first a g) * F a (s.cj g) (s.ci g) := by
  refine (sum_image s.taken (fun a j i => ∃ g, s.act a g ∧ s.cj g = j ∧ s.ci g = i) (fun _ _ _ _ => Iff.rfl) F).trans
    (Finset.sum_congr rfl fun a _ => ?_)
  rw [s.sum_boxes _ (s.first_unique a) (F a)]
  refine Finset.sum_congr rfl fun j _ => Finset.sum_congr rfl fun i _ => ?_
  exact ite_iff _ _ (s.first_iff a j i).symm _ _

/-- What all cells give less what the excluded cells give is what the no-object cells give. -/
theorem noobj_eq (F : Fin 16 → Fin 3 → Fin 76 → Fin 76 → EReal) (hF : ∀ b a j i, ∃ r : ℝ, F b a j i = (r : EReal)) :
    (∑ b, ∑ a, ∑ j, ∑ i, F b a j i) - ∑ a, ∑ g, ind (s.first a g) * F 0 a (s.cj g) (s.ci g)
      = ∑ b, ∑ a, ∑ j, ∑ i, if s.noobj b a j i then F b a j i else 0 := by
  have split : (∑ b, ∑ a, ∑ j, ∑ i, F b a j i) = (∑ b, ∑ a, ∑ j, ∑ i, if s.noobj b a j i then F b a j i else 0)
      + ∑ b : Fin 16, ∑ a, ∑ j, ∑ i, if s.taken b a j i then F 0 a j i else 0 := by
    simp only [← Finset.sum_add_distrib]
    refine Finset.sum_congr rfl fun b _ => Finset.sum_congr rfl fun a _ => Finset.sum_congr rfl fun j _ =>
      Finset.sum_congr rfl fun i _ => ?_
    by_cases h : s.taken b a j i
    · have hn : ¬ s.noobj b a j i := fun hn => hn h
      rw [if_neg hn, if_pos h, zero_add, h.1]
    · have hn : s.noobj b a j i := h
      rw [if_pos hn, if_neg h, add_zero]
  rw [split, s.excluded_eq (F 0)]
  have hr : ∃ r : ℝ, (∑ a, ∑ g, ind (s.first a g) * F 0 a (s.cj g) (s.ci g)) = (r : EReal) := by
    choose G hG using hF
    choose t ht using fun (a : Fin 3) (g : Fin 300) => ind_real (s.first a g)
    refine ⟨∑ a, ∑ g, t a g * G 0 a (s.cj g) (s.ci g), ?_⟩
    have coe_sum : ∀ {n : ℕ} (f : Fin n → ℝ), ((∑ i, f i : ℝ) : EReal) = ∑ i, (f i : EReal) := fun f =>
      map_sum (⟨⟨Real.toEReal, EReal.coe_zero⟩, EReal.coe_add⟩ : ℝ →+ EReal) f Finset.univ
    rw [coe_sum]
    refine Finset.sum_congr rfl fun a _ => ?_
    rw [coe_sum]
    refine Finset.sum_congr rfl fun g _ => ?_
    rw [EReal.coe_mul, ← hG, ← (ht a g).2]
  obtain ⟨r, hr⟩ := hr
  rw [hr, EReal.add_sub_cancel_right]

/-- The kernel's count of no-object cells is the reference's. -/
theorem noobjCount_eq : cells - ∑ a, ∑ g, ind (s.first a g) = ∑ b, ∑ a, ∑ j, ∑ i, ind (s.noobj b a j i) := by
  have h := s.noobj_eq (fun _ _ _ _ => 1) (fun _ _ _ _ => ⟨1, rfl⟩)
  simp only [mul_one] at h
  have hc : (∑ _b : Fin 16, ∑ _a : Fin 3, ∑ _j : Fin 76, ∑ _i : Fin 76, (1 : EReal)) = cells := by
    rw [cells_eq]
    simp only [Finset.sum_const, Finset.card_univ, Fintype.card_fin, smul_smul]
    rw [← EReal.coe_one, ← EReal.coe_nsmul]
    norm_num
  rw [hc] at h
  exact h

/-! ## The two forms -/

/-- Over the extended reals the kernel's loss is the reference's, whatever the predictions and the boxes' sizes. -/
theorem kernel_eq_reference : s.kernelLoss = s.referenceLoss := by
  have hn : ∃ r : ℝ, 0 < r ∧ s.objCount = (r : EReal) := by
    rw [s.objCount_eq]
    exact max_real (sum_real _ fun a => sum_real _ fun g => ind_real _)
  have hm : ∃ r : ℝ, 0 < r ∧ max (∑ b, ∑ a, ∑ j, ∑ i, ind (s.noobj b a j i)) 1 = (r : EReal) :=
    max_real (sum_real _ fun b => sum_real _ fun a => sum_real _ fun j => sum_real _ fun i => ind_real _)
  unfold kernelLoss referenceLoss
  congr 1
  · rw [← s.objCount_eq, ← div_add _ _ _ hn, ← div_add _ _ _ hn, ← div_add _ _ _ hn, ← div_add _ _ _ hn]
    congr 1
    simp only [s.objSum_eq, ← Finset.sum_add_distrib]
    refine Finset.sum_congr rfl fun a _ => Finset.sum_congr rfl fun g _ => ?_
    unfold win term
    simp only [ind_mul_add]
    rfl
  · rw [s.noobjCount_eq, mul_div _ _ _ hm, Finset.sum_comm]
    congr 2
    exact s.noobj_eq (fun b a j i => -log1mP (s.z b a 4 j i)) fun b a j i => log1mP_real _

end Scene

end Cert.Yolo
-- ==== Proof.Cells.lean ====
/- Coordinates in [0, 1) fall in cells of the grid, and an image number in [0, 1) is that of image 0. -/
module

public import proofs.«01_k».proof.Proof.Bits

@[expose] public section

noncomputable section

namespace Cert.Yolo

open Idealize.ShloMosaic

theorem real_of_unit {x : EReal} (h0 : 0 ≤ x) (h1 : x < 1) : ∃ r : ℝ, x = (r : EReal) ∧ 0 ≤ r ∧ r < 1 := by
  induction x with
  | bot => exact absurd h0 (by simp)
  | top => exact absurd h1 (by simp)
  | coe r => exact ⟨r, rfl, by exact_mod_cast h0, by exact_mod_cast h1⟩

/-- A number of at least zero and less than `n` truncates to a word less than `n`. -/
theorem word_of_real {r : ℝ} {n : ℕ} (hn : n ≤ 76) (h0 : 0 ≤ r) (h1 : r < n) :
    ∃ k : ℕ, k < n ∧ Ideal.fptosi 32 (r : EReal) = BitVec.ofNat 32 k := by
  have hf0 : 0 ≤ ⌊r⌋ := Int.floor_nonneg.mpr h0
  have hf1 : ⌊r⌋ < n := Int.floor_lt.mpr (by exact_mod_cast h1)
  refine ⟨⌊r⌋.toNat, by omega, ?_⟩
  have hc : ∀ lo hi : ℤ, lo ≤ 0 → 76 ≤ hi → Ideal.toIntClamped lo hi (r : EReal) = ⌊r⌋ := by
    intro lo hi hlo hhi
    rw [Ideal.toIntClamped_coe, if_pos h0, min_eq_right (by omega), max_eq_right (by omega)]
  unfold Ideal.fptosi
  rw [hc _ _ (by norm_num) (by norm_num)]
  conv_lhs => rw [← Int.toNat_of_nonneg hf0]
  exact BitVec.ofInt_natCast _ _

/-- An image number in [0, 1) truncates to image 0. -/
theorem image_zero {x : EReal} (h0 : 0 ≤ x) (h1 : x < 1) : Ideal.fptosi 32 x = 0#32 := by
  obtain ⟨r, rfl, hr0, hr1⟩ := real_of_unit h0 h1
  obtain ⟨k, hk, e⟩ := word_of_real (n := 1) (by norm_num) hr0 (by exact_mod_cast hr1)
  rw [e, show k = 0 by omega]

/-- A coordinate in [0, 1) has its cell's number as its word. -/
theorem cellWord_eq {x : EReal} (h0 : 0 ≤ x) (h1 : x < 1) : cellWord x = BitVec.ofNat 32 (cell x : ℕ) := by
  obtain ⟨r, rfl, hr0, hr1⟩ := real_of_unit h0 h1
  have hs : side * (r : EReal) = ((76 * r : ℝ) : EReal) := by rw [side_eq, EReal.coe_mul]
  obtain ⟨k, hk, e⟩ := word_of_real (r := 76 * r) (n := 76) le_rfl (by positivity) (by push_cast; linarith)
  have hw : cellWord (r : EReal) = BitVec.ofNat 32 k := by unfold cellWord; rw [hs, e]
  have hc : (cell (r : EReal) : ℕ) = k := by
    show min (cellWord (r : EReal)).toNat 75 = k
    rw [hw, BitVec.toNat_ofNat, Nat.mod_eq_of_lt (by omega)]
    omega
  rw [hw, hc]

end Cert.Yolo
-- ==== Proof.Algebraic.lean ====
/- The value claim: from one prediction and one array of boxes, every box in image 0 with its centre in the image, the
   idealized kernel and the reference both run and leave the same loss. -/
module

public import proofs.«01_k».proof.Defs
public import proofs.«01_k».proof.Proof.Gen.Pre_boxes_in_image_0
public import proofs.«01_k».proof.Proof.KernelRun
public import proofs.«01_k».proof.Proof.RefRun
public import proofs.«01_k».proof.Proof.Equal
public import proofs.«01_k».proof.Proof.Cells

@[expose] public section

set_option maxRecDepth 16384

noncomputable section

namespace Cert.Proof

open Idealize.ShloMosaic Idealize.ShloMosaic.Pointwise Idealize.ShloMosaic.TcCoe Idealize.SL.Sem Idealize.ShloMosaic.StableHlo
open Cert.Yolo

/-- The precondition at one entry: the image number (column 0) and the centre's coordinates (1 and 2) are in [0, 1). -/
theorem pre_entry (P : FVec Ideal Cert.Pre_boxes_in_image_0.S16x255x76x76 .f32) (G : FVec Ideal Cert.Pre_boxes_in_image_0.S300x5 .f32)
    (h : Cert.Pre_boxes_in_image_0.fn (F := Ideal) P G = fun _ => 1#1) (g : Fin 300) (k : Fin 3) :
    0 ≤ G (ix2 g ⟨k.1, by omega⟩) ∧ G (ix2 g ⟨k.1, by omega⟩) < 1 := by
  have e := congrFun h (ix2 g k)
  unfold Cert.Pre_boxes_in_image_0.fn at e
  simp only at e
  pointwise [] at e
  rw [andi_one, ofBool_decide, ofBool_decide] at e
  exact e

/-- Under the precondition every box's centre falls in the grid. -/
theorem cells_ok (P : FVec Ideal Cert.Pre_boxes_in_image_0.S16x255x76x76 .f32) (G : FVec Ideal Cert.Pre_boxes_in_image_0.S300x5 .f32)
    (h : Cert.Pre_boxes_in_image_0.fn (F := Ideal) P G = fun _ => 1#1) (Q : Fin 16 → Fin 255 → Fin 76 → Fin 76 → EReal) :
    CellsOk (Scene.of Q fun g k => G (ix2 g k)) :=
  ⟨fun g => cellWord_eq (pre_entry P G h g 1).1 (pre_entry P G h g 1).2,
   fun g => cellWord_eq (pre_entry P G h g 2).1 (pre_entry P G h g 2).2⟩

/-- The idealized kernel and the reference leave one loss. -/
theorem algebraic : Cert.algebraic_KernelIdeal_ReferenceIdeal_pre_boxes_in_image_0 := by
  intro m ρ m' ρ' hpre hargs
  refine ⟨fun c => fun _ => (Cert.KernelIdeal.Val.scene (Cert.KernelIdeal.Val.pred m c) (Cert.KernelIdeal.Val.gts m c)).kernelLoss,
    Cert.KernelIdeal.Val.run m ρ fun c => cells_ok _ _ (hpre c) _, ?_⟩
  have hp : ∀ c : Dev Cert.ReferenceIdeal.nD, Cert.ReferenceIdeal.Val.pred (launchContents m' c) = Cert.KernelIdeal.Val.pred m c :=
    fun c => (hargs c).1
  have hg : ∀ c : Dev Cert.ReferenceIdeal.nD, Cert.ReferenceIdeal.Val.gts (launchContents m' c) = Cert.KernelIdeal.Val.gts m c :=
    fun c => (hargs c).2
  have hs : ∀ c : Dev Cert.ReferenceIdeal.nD, Cert.ReferenceIdeal.Val.sc (launchContents m' c)
      = Cert.KernelIdeal.Val.scene (Cert.KernelIdeal.Val.pred m c) (Cert.KernelIdeal.Val.gts m c) := by
    intro c
    unfold Cert.ReferenceIdeal.Val.sc Cert.KernelIdeal.Val.scene
    rw [hp, hg]
  refine (θ_run Cert.ReferenceIdeal.defs _ _).mono (fun r hr c => ?_) (Cert.ReferenceIdeal.Val.run m' ρ' fun c => ⟨fun g => ?_, ?_⟩)
  · refine ⟨(hr c).1.trans (funext fun _ => ?_), (hr c).2⟩
    rw [hs c]
    exact (Scene.kernel_eq_reference _).symm
  · rw [hg c]
    exact image_zero (pre_entry _ _ (hpre c) g 0).1 (pre_entry _ _ (hpre c) g 0).2
  · rw [hs c]
    exact cells_ok _ _ (hpre c) _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_boxes_in_image_0
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_boxes_in_image_0.Gen.facts, frame_kernel, frame_kernelIdeal, frame_kernelIdeal_pre, frame_referenceIdeal,
  frame_referenceIdeal_pre, preserves, algebraic⟩

end Cert.Proof

end
